-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_spans [hPre_spans : Cert.Pre_spans.Facts] (m : (ℓ : Loc Cert.KernelIdeal.nD Cert.KernelIdeal.τ Cert.KernelIdeal.sig) → Buf (Elt Ideal) ℓ) : Prop :=
  ∀ c : Dev Cert.KernelIdeal.nD,
    (Cert.Pre_spans.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_spans [hPre_spans : Cert.Pre_spans.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_spans.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_spans [hKernelIdeal : Cert.KernelIdeal.Facts] [hPre_spans : Cert.Pre_spans.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_spans m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_spans [hReferenceIdeal : Cert.ReferenceIdeal.Facts] [hPre_spans : Cert.Pre_spans.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_spans m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  True

def algebraic_KernelIdeal_ReferenceIdeal_pre_spans [hKernelIdeal : Cert.KernelIdeal.Facts] [hReferenceIdeal : Cert.ReferenceIdeal.Facts] [hPre_spans : Cert.Pre_spans.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_spans m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_indices)) (v1 : (c : Dev Cert.KernelIdeal.nD) → Buf (Elt Ideal) ((c.tc : Thread Cert.KernelIdeal.nD Cert.KernelIdeal.τ).loc Cert.KernelIdeal.main_v92)) (v2 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_indices) = v0 c
          ∧ r.2.mem ((c.tc : Thread Cert.KernelIdeal.nD Cert.KernelIdeal.τ).loc Cert.KernelIdeal.main_v92) = v1 c
          ∧ r.2.mem ((c.tc : Thread Cert.KernelIdeal.nD Cert.KernelIdeal.τ).loc Cert.KernelIdeal.main_v11) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_indices) = v0 c
          ∧ r.2.mem ((c.tc : Thread Cert.ReferenceIdeal.nD Cert.ReferenceIdeal.τ).loc Cert.ReferenceIdeal.main_v61) = v1 c
          ∧ r.2.mem ((c.tc : Thread Cert.ReferenceIdeal.nD Cert.ReferenceIdeal.τ).loc Cert.ReferenceIdeal.main_v52) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_spans : Cert.Pre_spans.Facts),
    quiescent_Kernel (hKernel := hKernel)
    ∧ quiescent_KernelIdeal (hKernelIdeal := hKernelIdeal)
    ∧ quiescent_KernelIdeal_pre_spans (hKernelIdeal := hKernelIdeal) (hPre_spans := hPre_spans)
    ∧ quiescent_ReferenceIdeal (hReferenceIdeal := hReferenceIdeal)
    ∧ quiescent_ReferenceIdeal_pre_spans (hReferenceIdeal := hReferenceIdeal) (hPre_spans := hPre_spans)
    ∧ preserves_Kernel_KernelIdeal
    ∧ algebraic_KernelIdeal_ReferenceIdeal_pre_spans (hKernelIdeal := hKernelIdeal) (hReferenceIdeal := hReferenceIdeal) (hPre_spans := hPre_spans)
-- ==== Pre_spans.lean ====
abbrev S8192x512 : Shape := ⟨2, ![8192, 512]⟩
abbrev S8192x300 : Shape := ⟨2, ![8192, 300]⟩
abbrev S65536x3 : Shape := ⟨2, ![65536, 3]⟩
abbrev S_ : Shape := ⟨0, ![]⟩
abbrev S512x50 : Shape := ⟨2, ![512, 50]⟩
abbrev S50 : Shape := ⟨1, ![50]⟩
abbrev S50x1 : Shape := ⟨2, ![50, 1]⟩
abbrev S1 : Shape := ⟨1, ![1]⟩
abbrev S8x20 : Shape := ⟨2, ![8, 20]⟩
abbrev S1344x50 : Shape := ⟨2, ![1344, 50]⟩
abbrev S8192x8 : Shape := ⟨2, ![8192, 8]⟩
abbrev S8192x8x3 : Shape := ⟨3, ![8192, 8, 3]⟩
abbrev S8192x8x1 : Shape := ⟨3, ![8192, 8, 1]⟩

class Facts : Prop where
  bcast_S_S8192x8 : S_.BroadcastsInDim S8192x8 (![] : Fin 0 → Fin S8192x8.rank)
  shapeCasts_S65536x3_S8192x8x3 : S65536x3.ShapeCasts S8192x8x3
  slices_S8192x8x3_S8192x8x1_0_0_0 : S8192x8x3.Slices ![0, 0, 0] S8192x8x1
  shapeCasts_S8192x8x1_S8192x8 : S8192x8x1.ShapeCasts S8192x8
  slices_S8192x8x3_S8192x8x1_0_0_1 : S8192x8x3.Slices ![0, 0, 1] S8192x8x1

variable [Facts]

def fn {F : FTy → Type} [FloatOps F] (main_arg0 : FVec F S8192x512 .f32) (main_arg1 : FVec F S8192x300 .f32) (main_arg2 : IVec S65536x3 32) (main_arg3 : IVec S_ 32) (main_arg4 : FVec F S512x50 .f32) (main_arg5 : FVec F S50 .f32) (main_arg6 : FVec F S50x1 .f32) (main_arg7 : FVec F S1 .f32) (main_arg8 : FVec F S8x20 .f32) (main_arg9 : FVec F S1344x50 .f32) (main_arg10 : FVec F S50 .f32) (main_arg11 : FVec F S50x1 .f32) (main_arg12 : FVec F S1 .f32) : IVec S8192x8 1 :=
  let main_v0 : IVec S8192x8 32 := iotaInDim S8192x8 32 0
  let main_v1 : IVec S8192x8 32 := iotaInDim S8192x8 32 1
  let main_v2 : IVec S8192x8 32 := addi main_v0 main_v1
  let main_c : IVec S_ 32 := constantI S_ 32 8191#32
  let main_v3 : IVec S8192x8 32 := broadcastInDim S8192x8 ![] bcast_S_S8192x8 main_c
  let main_v4 : IVec S8192x8 32 := minsi main_v2 main_v3
  let main_v5 : IVec S8192x8x3 32 := shapeCast S8192x8x3 main_arg2 shapeCasts_S65536x3_S8192x8x3
  let main_v6 : IVec S8192x8x1 32 := (extractStridedSlice S8192x8x1 ![0, 0, 0] · slices_S8192x8x3_S8192x8x1_0_0_0) main_v5
  let main_v7 : IVec S8192x8 32 := shapeCast S8192x8 main_v6 shapeCasts_S8192x8x1_S8192x8
  let main_v8 : IVec S8192x8 1 := cmpi .eq main_v7 main_v0
  let main_v9 : IVec S8192x8x1 32 := (extractStridedSlice S8192x8x1 ![0, 0, 1] · slices_S8192x8x3_S8192x8x1_0_0_1) main_v5
  let main_v10 : IVec S8192x8 32 := shapeCast S8192x8 main_v9 shapeCasts_S8192x8x1_S8192x8
  let main_v11 : IVec S8192x8 1 := cmpi .eq main_v10 main_v4
  let main_v12 : IVec S8192x8 1 := andi main_v8 main_v11
  main_v12
-- ==== Kernel.lean ====
abbrev S8192x512 : Shape := ⟨2, ![8192, 512]⟩
abbrev S8192x300 : Shape := ⟨2, ![8192, 300]⟩
abbrev S65536x3 : Shape := ⟨2, ![65536, 3]⟩
abbrev S_ : Shape := ⟨0, ![]⟩
abbrev S512x50 : Shape := ⟨2, ![512, 50]⟩
abbrev S50 : Shape := ⟨1, ![50]⟩
abbrev S50x1 : Shape := ⟨2, ![50, 1]⟩
abbrev S1 : Shape := ⟨1, ![1]⟩
abbrev S8x20 : Shape := ⟨2, ![8, 20]⟩
abbrev S1344x50 : Shape := ⟨2, ![1344, 50]⟩
abbrev S1x512 : Shape := ⟨2, ![1, 512]⟩
abbrev S512 : Shape := ⟨1, ![512]⟩
abbrev S256x512 : Shape := ⟨2, ![256, 512]⟩
abbrev S1x300 : Shape := ⟨2, ![1, 300]⟩
abbrev S300 : Shape := ⟨1, ![300]⟩
abbrev S256x300 : Shape := ⟨2, ![256, 300]⟩
abbrev S8448x512 : Shape := ⟨2, ![8448, 512]⟩
abbrev S8448x300 : Shape := ⟨2, ![8448, 300]⟩
abbrev S1x50 : Shape := ⟨2, ![1, 50]⟩
abbrev S1x1 : Shape := ⟨2, ![1, 1]⟩
abbrev S8192x8x1344 : Shape := ⟨3, ![8192, 8, 1344]⟩
abbrev S256x8x1344 : Shape := ⟨3, ![256, 8, 1344]⟩
abbrev S8x512 : Shape := ⟨2, ![8, 512]⟩
abbrev S264x512 : Shape := ⟨2, ![264, 512]⟩
abbrev S8x300 : Shape := ⟨2, ![8, 300]⟩
abbrev S264x300 : Shape := ⟨2, ![264, 300]⟩
abbrev S264x50 : Shape := ⟨2, ![264, 50]⟩
abbrev S264x1 : Shape := ⟨2, ![264, 1]⟩
abbrev S256x1 : Shape := ⟨2, ![256, 1]⟩
abbrev S256x8 : Shape := ⟨2, ![256, 8]⟩
abbrev S256 : Shape := ⟨1, ![256]⟩
abbrev S1x20 : Shape := ⟨2, ![1, 20]⟩
abbrev S20 : Shape := ⟨1, ![20]⟩
abbrev S256x20 : Shape := ⟨2, ![256, 20]⟩
abbrev S256x1x512 : Shape := ⟨3, ![256, 1, 512]⟩
abbrev S256x1x300 : Shape := ⟨3, ![256, 1, 300]⟩
abbrev S256x1x20 : Shape := ⟨3, ![256, 1, 20]⟩
abbrev S65536x1344 : Shape := ⟨2, ![65536, 1344]⟩
abbrev S8192x1344 : Shape := ⟨2, ![8192, 1344]⟩
abbrev S8192x50 : Shape := ⟨2, ![8192, 50]⟩
abbrev S8192x1 : Shape := ⟨2, ![8192, 1]⟩
abbrev S65536x1 : Shape := ⟨2, ![65536, 1]⟩
abbrev S65536 : Shape := ⟨1, ![65536]⟩
abbrev S3276 : Shape := ⟨1, ![3276]⟩

abbrev nBuf : Space → Nat
  | .hbm => 125
  | .vmem => 15
  | .smem => 0
  | _ => 0

abbrev bufTy : (tb : Table) → Fin (tcTables nBuf tb) → BufTy
  | .hbm, ⟨0, _⟩ => ⟨S8192x512, .f32⟩
  | .hbm, ⟨1, _⟩ => ⟨S8192x300, .f32⟩
  | .hbm, ⟨2, _⟩ => ⟨S65536x3, .i32⟩
  | .hbm, ⟨3, _⟩ => ⟨S_, .i32⟩
  | .hbm, ⟨4, _⟩ => ⟨S512x50, .f32⟩
  | .hbm, ⟨5, _⟩ => ⟨S50, .f32⟩
  | .hbm, ⟨6, _⟩ => ⟨S50x1, .f32⟩
  | .hbm, ⟨7, _⟩ => ⟨S1, .f32⟩
  | .hbm, ⟨8, _⟩ => ⟨S8x20, .f32⟩
  | .hbm, ⟨9, _⟩ => ⟨S1344x50, .f32⟩
  | .hbm, ⟨10, _⟩ => ⟨S50, .f32⟩
  | .hbm, ⟨11, _⟩ => ⟨S50x1, .f32⟩
  | .hbm, ⟨12, _⟩ => ⟨S1, .f32⟩
  | .hbm, ⟨13, _⟩ => ⟨S1x512, .f32⟩
  | .hbm, ⟨14, _⟩ => ⟨S512, .f32⟩
  | .hbm, ⟨15, _⟩ => ⟨S256x512, .f32⟩
  | .hbm, ⟨16, _⟩ => ⟨S1x300, .f32⟩
  | .hbm, ⟨17, _⟩ => ⟨S300, .f32⟩
  | .hbm, ⟨18, _⟩ => ⟨S256x300, .f32⟩
  | .hbm, ⟨19, _⟩ => ⟨S8448x512, .f32⟩
  | .hbm, ⟨20, _⟩ => ⟨S8448x300, .f32⟩
  | .hbm, ⟨21, _⟩ => ⟨S1x50, .f32⟩
  | .hbm, ⟨22, _⟩ => ⟨S1x1, .f32⟩
  | .hbm, ⟨23, _⟩ => ⟨S8192x8x1344, .f32⟩
  | .hbm, ⟨24, _⟩ => ⟨S65536x1344, .f32⟩
  | .hbm, ⟨25, _⟩ => ⟨S8192x1344, .f32⟩
  | .hbm, ⟨26, _⟩ => ⟨S8192x50, .f32⟩
  | .hbm, ⟨27, _⟩ => ⟨S1x50, .f32⟩
  | .hbm, ⟨28, _⟩ => ⟨S8192x50, .f32⟩
  | .hbm, ⟨29, _⟩ => ⟨S8192x50, .f32⟩
  | .hbm, ⟨30, _⟩ => ⟨S_, .f32⟩
  | .hbm, ⟨31, _⟩ => ⟨S8192x50, .f32⟩
  | .hbm, ⟨32, _⟩ => ⟨S8192x50, .f32⟩
  | .hbm, ⟨33, _⟩ => ⟨S8192x1, .f32⟩
  | .hbm, ⟨34, _⟩ => ⟨S1x1, .f32⟩
  | .hbm, ⟨35, _⟩ => ⟨S8192x1, .f32⟩
  | .hbm, ⟨36, _⟩ => ⟨S8192x1, .f32⟩
  | .hbm, ⟨37, _⟩ => ⟨S8192x1344, .f32⟩
  | .hbm, ⟨38, _⟩ => ⟨S8192x50, .f32⟩
  | .hbm, ⟨39, _⟩ => ⟨S1x50, .f32⟩
  | .hbm, ⟨40, _⟩ => ⟨S8192x50, .f32⟩
  | .hbm, ⟨41, _⟩ => ⟨S8192x50, .f32⟩
  | .hbm, ⟨42, _⟩ => ⟨S_, .f32⟩
  | .hbm, ⟨43, _⟩ => ⟨S8192x50, .f32⟩
  | .hbm, ⟨44, _⟩ => ⟨S8192x50, .f32⟩
  | .hbm, ⟨45, _⟩ => ⟨S8192x1, .f32⟩
  | .hbm, ⟨46, _⟩ => ⟨S1x1, .f32⟩
  | .hbm, ⟨47, _⟩ => ⟨S8192x1, .f32⟩
  | .hbm, ⟨48, _⟩ => ⟨S8192x1, .f32⟩
  | .hbm, ⟨49, _⟩ => ⟨S8192x1344, .f32⟩
  | .hbm, ⟨50, _⟩ => ⟨S8192x50, .f32⟩
  | .hbm, ⟨51, _⟩ => ⟨S1x50, .f32⟩
  | .hbm, ⟨52, _⟩ => ⟨S8192x50, .f32⟩
  | .hbm, ⟨53, _⟩ => ⟨S8192x50, .f32⟩
  | .hbm, ⟨54, _⟩ => ⟨S_, .f32⟩
  | .hbm, ⟨55, _⟩ => ⟨S8192x50, .f32⟩
  | .hbm, ⟨56, _⟩ => ⟨S8192x50, .f32⟩
  | .hbm, ⟨57, _⟩ => ⟨S8192x1, .f32⟩
  | .hbm, ⟨58, _⟩ => ⟨S1x1, .f32⟩
  | .hbm, ⟨59, _⟩ => ⟨S8192x1, .f32⟩
  | .hbm, ⟨60, _⟩ => ⟨S8192x1, .f32⟩
  | .hbm, ⟨61, _⟩ => ⟨S8192x1344, .f32⟩
  | .hbm, ⟨62, _⟩ => ⟨S8192x50, .f32⟩
  | .hbm, ⟨63, _⟩ => ⟨S1x50, .f32⟩
  | .hbm, ⟨64, _⟩ => ⟨S8192x50, .f32⟩
  | .hbm, ⟨65, _⟩ => ⟨S8192x50, .f32⟩
  | .hbm, ⟨66, _⟩ => ⟨S_, .f32⟩
  | .hbm, ⟨67, _⟩ => ⟨S8192x50, .f32⟩
  | .hbm, ⟨68, _⟩ => ⟨S8192x50, .f32⟩
  | .hbm, ⟨69, _⟩ => ⟨S8192x1, .f32⟩
  | .hbm, ⟨70, _⟩ => ⟨S1x1, .f32⟩
  | .hbm, ⟨71, _⟩ => ⟨S8192x1, .f32⟩
  | .hbm, ⟨72, _⟩ => ⟨S8192x1, .f32⟩
  | .hbm, ⟨73, _⟩ => ⟨S8192x1344, .f32⟩
  | .hbm, ⟨74, _⟩ => ⟨S8192x50, .f32⟩
  | .hbm, ⟨75, _⟩ => ⟨S1x50, .f32⟩
  | .hbm, ⟨76, _⟩ => ⟨S8192x50, .f32⟩
  | .hbm, ⟨77, _⟩ => ⟨S8192x50, .f32⟩
  | .hbm, ⟨78, _⟩ => ⟨S_, .f32⟩
  | .hbm, ⟨79, _⟩ => ⟨S8192x50, .f32⟩
  | .hbm, ⟨80, _⟩ => ⟨S8192x50, .f32⟩
  | .hbm, ⟨81, _⟩ => ⟨S8192x1, .f32⟩
  | .hbm, ⟨82, _⟩ => ⟨S1x1, .f32⟩
  | .hbm, ⟨83, _⟩ => ⟨S8192x1, .f32⟩
  | .hbm, ⟨84, _⟩ => ⟨S8192x1, .f32⟩
  | .hbm, ⟨85, _⟩ => ⟨S8192x1344, .f32⟩
  | .hbm, ⟨86, _⟩ => ⟨S8192x50, .f32⟩
  | .hbm, ⟨87, _⟩ => ⟨S1x50, .f32⟩
  | .hbm, ⟨88, _⟩ => ⟨S8192x50, .f32⟩
  | .hbm, ⟨89, _⟩ => ⟨S8192x50, .f32⟩
  | .hbm, ⟨90, _⟩ => ⟨S_, .f32⟩
  | .hbm, ⟨91, _⟩ => ⟨S8192x50, .f32⟩
  | .hbm, ⟨92, _⟩ => ⟨S8192x50, .f32⟩
  | .hbm, ⟨93, _⟩ => ⟨S8192x1, .f32⟩
  | .hbm, ⟨94, _⟩ => ⟨S1x1, .f32⟩
  | .hbm, ⟨95, _⟩ => ⟨S8192x1, .f32⟩
  | .hbm, ⟨96, _⟩ => ⟨S8192x1, .f32⟩
  | .hbm, ⟨97, _⟩ => ⟨S8192x1344, .f32⟩
  | .hbm, ⟨98, _⟩ => ⟨S8192x50, .f32⟩
  | .hbm, ⟨99, _⟩ => ⟨S1x50, .f32⟩
  | .hbm, ⟨100, _⟩ => ⟨S8192x50, .f32⟩
  | .hbm, ⟨101, _⟩ => ⟨S8192x50, .f32⟩
  | .hbm, ⟨102, _⟩ => ⟨S_, .f32⟩
  | .hbm, ⟨103, _⟩ => ⟨S8192x50, .f32⟩
  | .hbm, ⟨104, _⟩ => ⟨S8192x50, .f32⟩
  | .hbm, ⟨105, _⟩ => ⟨S8192x1, .f32⟩
  | .hbm, ⟨106, _⟩ => ⟨S1x1, .f32⟩
  | .hbm, ⟨107, _⟩ => ⟨S8192x1, .f32⟩
  | .hbm, ⟨108, _⟩ => ⟨S8192x1, .f32⟩
  | .hbm, ⟨109, _⟩ => ⟨S8192x1344, .f32⟩
  | .hbm, ⟨110, _⟩ => ⟨S8192x50, .f32⟩
  | .hbm, ⟨111, _⟩ => ⟨S1x50, .f32⟩
  | .hbm, ⟨112, _⟩ => ⟨S8192x50, .f32⟩
  | .hbm, ⟨113, _⟩ => ⟨S8192x50, .f32⟩
  | .hbm, ⟨114, _⟩ => ⟨S_, .f32⟩
  | .hbm, ⟨115, _⟩ => ⟨S8192x50, .f32⟩
  | .hbm, ⟨116, _⟩ => ⟨S8192x50, .f32⟩
  | .hbm, ⟨117, _⟩ => ⟨S8192x1, .f32⟩
  | .hbm, ⟨118, _⟩ => ⟨S1x1, .f32⟩
  | .hbm, ⟨119, _⟩ => ⟨S8192x1, .f32⟩
  | .hbm, ⟨120, _⟩ => ⟨S8192x1, .f32⟩
  | .hbm, ⟨121, _⟩ => ⟨S65536x1, .f32⟩
  | .hbm, ⟨122, _⟩ => ⟨S65536, .f32⟩
  | .hbm, ⟨123, _⟩ => ⟨S3276, .f32⟩
  | .hbm, ⟨124, _⟩ => ⟨S3276, .i32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x300, .f32⟩
  | .local _ .vmem, ⟨5, _⟩ => ⟨S256x300, .f32⟩
  | .local _ .vmem, ⟨6, _⟩ => ⟨S256x300, .f32⟩
  | .local _ .vmem, ⟨7, _⟩ => ⟨S256x300, .f32⟩
  | .local _ .vmem, ⟨8, _⟩ => ⟨S512x50, .f32⟩
  | .local _ .vmem, ⟨9, _⟩ => ⟨S1x50, .f32⟩
  | .local _ .vmem, ⟨10, _⟩ => ⟨S50x1, .f32⟩
  | .local _ .vmem, ⟨11, _⟩ => ⟨S1x1, .f32⟩
  | .local _ .vmem, ⟨12, _⟩ => ⟨S8x20, .f32⟩
  | .local _ .vmem, ⟨13, _⟩ => ⟨S256x8x1344, .f32⟩
  | .local _ .vmem, ⟨14, _⟩ => ⟨S256x8x1344, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_call0_cst : Ref sig .tc := ⟨.hbm, 30, rfl⟩
abbrev main_call0_v0 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_call1_cst : Ref sig .tc := ⟨.hbm, 42, rfl⟩
abbrev main_call1_v0 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_call2_cst : Ref sig .tc := ⟨.hbm, 54, rfl⟩
abbrev main_call2_v0 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call3_cst : Ref sig .tc := ⟨.hbm, 66, rfl⟩
abbrev main_call3_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_call4_cst : Ref sig .tc := ⟨.hbm, 78, rfl⟩
abbrev main_call4_v0 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_call5_cst : Ref sig .tc := ⟨.hbm, 90, rfl⟩
abbrev main_call5_v0 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_call6_cst : Ref sig .tc := ⟨.hbm, 102, rfl⟩
abbrev main_call6_v0 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_call7_cst : Ref sig .tc := ⟨.hbm, 114, rfl⟩
abbrev main_call7_v0 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_values : Ref sig .tc := ⟨.hbm, 123, rfl⟩
abbrev main_indices : Ref sig .tc := ⟨.hbm, 124, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x300 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x300 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x50 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x50 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S50x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x20 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x8x1344 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S8192x512 : Shape := ⟨2, ![8192, 512]⟩
abbrev S8192x300 : Shape := ⟨2, ![8192, 300]⟩
abbrev S65536x3 : Shape := ⟨2, ![65536, 3]⟩
abbrev S_ : Shape := ⟨0, ![]⟩
abbrev S512x50 : Shape := ⟨2, ![512, 50]⟩
abbrev S50 : Shape := ⟨1, ![50]⟩
abbrev S50x1 : Shape := ⟨2, ![50, 1]⟩
abbrev S1 : Shape := ⟨1, ![1]⟩
abbrev S8x20 : Shape := ⟨2, ![8, 20]⟩
abbrev S1344x50 : Shape := ⟨2, ![1344, 50]⟩
abbrev S65536x1 : Shape := ⟨2, ![65536, 1]⟩
abbrev S65536 : Shape := ⟨1, ![65536]⟩
abbrev S8192x50 : Shape := ⟨2, ![8192, 50]⟩
abbrev S1x50 : Shape := ⟨2, ![1, 50]⟩
abbrev S8192x1 : Shape := ⟨2, ![8192, 1]⟩
abbrev S1x1 : Shape := ⟨2, ![1, 1]⟩
abbrev S8 : Shape := ⟨1, ![8]⟩
abbrev S1x8 : Shape := ⟨2, ![1, 8]⟩
abbrev S65536x8 : Shape := ⟨2, ![65536, 8]⟩
abbrev S8192 : Shape := ⟨1, ![8192]⟩
abbrev S65536x8x1 : Shape := ⟨3, ![65536, 8, 1]⟩
abbrev S1x1x1 : Shape := ⟨3, ![1, 1, 1]⟩
abbrev S65536x8x300 : Shape := ⟨3, ![65536, 8, 300]⟩
abbrev S65536x300 : Shape := ⟨2, ![65536, 300]⟩
abbrev S65536x20 : Shape := ⟨2, ![65536, 20]⟩
abbrev S65536x512 : Shape := ⟨2, ![65536, 512]⟩
abbrev S65536x1024 : Shape := ⟨2, ![65536, 1024]⟩
abbrev S65536x1344 : Shape := ⟨2, ![65536, 1344]⟩
abbrev S65536x50 : Shape := ⟨2, ![65536, 50]⟩
abbrev S3276 : Shape := ⟨1, ![3276]⟩

abbrev nBuf : Space → Nat
  | .hbm => 214
  | .vmem => 0
  | .smem => 0
  | _ => 0

abbrev hbmTy0_0 (i : Nat) : BufTy := match i % 128 with
  | 0 => ⟨S8192x512, .f32⟩
  | 1 => ⟨S8192x300, .f32⟩
  | 2 => ⟨S65536x3, .i32⟩
  | 3 => ⟨S_, .i32⟩
  | 4 => ⟨S512x50, .f32⟩
  | 5 => ⟨S50, .f32⟩
  | 6 => ⟨S50x1, .f32⟩
  | 7 => ⟨S1, .f32⟩
  | 8 => ⟨S8x20, .f32⟩
  | 9 => ⟨S1344x50, .f32⟩
  | 10 => ⟨S50, .f32⟩
  | 11 => ⟨S50x1, .f32⟩
  | 12 => ⟨S1, .f32⟩
  | 13 => ⟨S65536x1, .i32⟩
  | 14 => ⟨S65536, .i32⟩
  | 15 => ⟨S65536x1, .i32⟩
  | 16 => ⟨S65536, .i32⟩
  | 17 => ⟨S8192x50, .f32⟩
  | 18 => ⟨S1x50, .f32⟩
  | 19 => ⟨S8192x50, .f32⟩
  | 20 => ⟨S8192x50, .f32⟩
  | 21 => ⟨S_, .f32⟩
  | 22 => ⟨S8192x50, .f32⟩
  | 23 => ⟨S8192x50, .f32⟩
  | 24 => ⟨S8192x1, .f32⟩
  | 25 => ⟨S1x1, .f32⟩
  | 26 => ⟨S8192x1, .f32⟩
  | 27 => ⟨S8192x1, .f32⟩
  | 28 => ⟨S8, .i32⟩
  | 29 => ⟨S65536x1, .i32⟩
  | 30 => ⟨S1x8, .i32⟩
  | 31 => ⟨S65536x8, .i32⟩
  | 32 => ⟨S65536x8, .i32⟩
  | 33 => ⟨S65536x8, .i32⟩
  | 34 => ⟨S65536x1, .i32⟩
  | 35 => ⟨S65536x8, .i32⟩
  | 36 => ⟨S65536x8, .i1⟩
  | 37 => ⟨S_, .i32⟩
  | 38 => ⟨S_, .i32⟩
  | 39 => ⟨S_, .i32⟩
  | 40 => ⟨S65536x8, .i32⟩
  | 41 => ⟨S65536x8, .i32⟩
  | 42 => ⟨S_, .i32⟩
  | 43 => ⟨S65536x8, .i32⟩
  | 44 => ⟨S65536x8, .i32⟩
  | 45 => ⟨S8192, .f32⟩
  | 46 => ⟨S_, .i32⟩
  | 47 => ⟨S65536x8, .i32⟩
  | 48 => ⟨S65536x8, .i1⟩
  | 49 => ⟨S_, .i32⟩
  | 50 => ⟨S65536x8, .i32⟩
  | 51 => ⟨S65536x8, .i32⟩
  | 52 => ⟨S65536x8, .i32⟩
  | 53 => ⟨S65536x8x1, .i32⟩
  | 54 => ⟨S1, .i32⟩
  | 55 => ⟨S_, .i32⟩
  | 56 => ⟨S65536x8x1, .i32⟩
  | 57 => ⟨S65536x8x1, .i1⟩
  | 58 => ⟨S1x1x1, .i32⟩
  | 59 => ⟨S65536x8x1, .i32⟩
  | 60 => ⟨S65536x8x1, .i1⟩
  | 61 => ⟨S65536x8x1, .i1⟩
  | 62 => ⟨S_, .i1⟩
  | 63 => ⟨S65536x8, .i1⟩
  | 64 => ⟨S65536x8, .f32⟩
  | 65 => ⟨S_, .f32⟩
  | 66 => ⟨S65536x8, .f32⟩
  | 67 => ⟨S65536x8, .f32⟩
  | 68 => ⟨S_, .f32⟩
  | 69 => ⟨S_, .f32⟩
  | 70 => ⟨S65536x8, .f32⟩
  | 71 => ⟨S65536x8, .f32⟩
  | 72 => ⟨S_, .f32⟩
  | 73 => ⟨S65536, .f32⟩
  | 74 => ⟨S_, .f32⟩
  | 75 => ⟨S65536, .f32⟩
  | 76 => ⟨S65536, .f32⟩
  | 77 => ⟨S65536x1, .f32⟩
  | 78 => ⟨S65536x8, .f32⟩
  | 79 => ⟨S65536x8, .f32⟩
  | 80 => ⟨S65536x8, .f32⟩
  | 81 => ⟨S_, .f32⟩
  | 82 => ⟨S65536, .f32⟩
  | 83 => ⟨S65536x1, .f32⟩
  | 84 => ⟨S65536x8, .f32⟩
  | 85 => ⟨S65536x8, .f32⟩
  | 86 => ⟨S_, .i32⟩
  | 87 => ⟨S65536x8, .i32⟩
  | 88 => ⟨S65536x8, .i1⟩
  | 89 => ⟨S_, .i32⟩
  | 90 => ⟨S65536x8, .i32⟩
  | 91 => ⟨S65536x8, .i32⟩
  | 92 => ⟨S65536x8, .i32⟩
  | 93 => ⟨S65536x8x1, .i32⟩
  | 94 => ⟨S1, .i32⟩
  | 95 => ⟨S_, .i32⟩
  | 96 => ⟨S65536x8x1, .i32⟩
  | 97 => ⟨S65536x8x1, .i1⟩
  | 98 => ⟨S1x1x1, .i32⟩
  | 99 => ⟨S65536x8x1, .i32⟩
  | 100 => ⟨S65536x8x1, .i1⟩
  | 101 => ⟨S65536x8x1, .i1⟩
  | 102 => ⟨S_, .i1⟩
  | 103 => ⟨S65536x8, .i1⟩
  | 104 => ⟨S65536x8x300, .f32⟩
  | 105 => ⟨S65536x8x300, .i1⟩
  | 106 => ⟨S_, .f32⟩
  | 107 => ⟨S65536x8x300, .f32⟩
  | 108 => ⟨S65536x8x300, .f32⟩
  | 109 => ⟨S65536x8x1, .f32⟩
  | 110 => ⟨S65536x8x300, .f32⟩
  | 111 => ⟨S65536x8x300, .f32⟩
  | 112 => ⟨S_, .f32⟩
  | 113 => ⟨S65536x300, .f32⟩
  | 114 => ⟨S65536, .i32⟩
  | 115 => ⟨S_, .i32⟩
  | 116 => ⟨S65536, .i32⟩
  | 117 => ⟨S65536, .i32⟩
  | 118 => ⟨S_, .i32⟩
  | 119 => ⟨S65536, .i32⟩
  | 120 => ⟨S65536, .i32⟩
  | 121 => ⟨S_, .i32⟩
  | 122 => ⟨S_, .i32⟩
  | 123 => ⟨S_, .i32⟩
  | 124 => ⟨S65536, .i32⟩
  | 125 => ⟨S65536, .i32⟩
  | 126 => ⟨S_, .i32⟩
  | 127 => ⟨S65536, .i32⟩
  | _ => ⟨S8192x512, .f32⟩

abbrev hbmTy0_1 (i : Nat) : BufTy := match i % 128 with
  | 0 => ⟨S65536, .i32⟩
  | 1 => ⟨S_, .i32⟩
  | 2 => ⟨S65536, .i32⟩
  | 3 => ⟨S65536, .i1⟩
  | 4 => ⟨S_, .i32⟩
  | 5 => ⟨S65536, .i32⟩
  | 6 => ⟨S65536, .i32⟩
  | 7 => ⟨S65536, .i32⟩
  | 8 => ⟨S65536x1, .i32⟩
  | 9 => ⟨S1, .i32⟩
  | 10 => ⟨S_, .i32⟩
  | 11 => ⟨S65536x1, .i32⟩
  | 12 => ⟨S65536x1, .i1⟩
  | 13 => ⟨S1x1, .i32⟩
  | 14 => ⟨S65536x1, .i32⟩
  | 15 => ⟨S65536x1, .i1⟩
  | 16 => ⟨S65536x1, .i1⟩
  | 17 => ⟨S_, .i1⟩
  | 18 => ⟨S65536, .i1⟩
  | 19 => ⟨S65536x20, .f32⟩
  | 20 => ⟨S65536x20, .i1⟩
  | 21 => ⟨S_, .f32⟩
  | 22 => ⟨S65536x20, .f32⟩
  | 23 => ⟨S65536x20, .f32⟩
  | 24 => ⟨S_, .i32⟩
  | 25 => ⟨S65536, .i32⟩
  | 26 => ⟨S65536, .i1⟩
  | 27 => ⟨S_, .i32⟩
  | 28 => ⟨S65536, .i32⟩
  | 29 => ⟨S65536, .i32⟩
  | 30 => ⟨S65536, .i32⟩
  | 31 => ⟨S65536x1, .i32⟩
  | 32 => ⟨S1, .i32⟩
  | 33 => ⟨S_, .i32⟩
  | 34 => ⟨S65536x1, .i32⟩
  | 35 => ⟨S65536x1, .i1⟩
  | 36 => ⟨S1x1, .i32⟩
  | 37 => ⟨S65536x1, .i32⟩
  | 38 => ⟨S65536x1, .i1⟩
  | 39 => ⟨S65536x1, .i1⟩
  | 40 => ⟨S_, .i1⟩
  | 41 => ⟨S65536, .i1⟩
  | 42 => ⟨S65536x512, .f32⟩
  | 43 => ⟨S65536x512, .i1⟩
  | 44 => ⟨S_, .f32⟩
  | 45 => ⟨S65536x512, .f32⟩
  | 46 => ⟨S65536x512, .f32⟩
  | 47 => ⟨S_, .i32⟩
  | 48 => ⟨S65536, .i32⟩
  | 49 => ⟨S65536, .i1⟩
  | 50 => ⟨S_, .i32⟩
  | 51 => ⟨S65536, .i32⟩
  | 52 => ⟨S65536, .i32⟩
  | 53 => ⟨S65536, .i32⟩
  | 54 => ⟨S65536x1, .i32⟩
  | 55 => ⟨S1, .i32⟩
  | 56 => ⟨S_, .i32⟩
  | 57 => ⟨S65536x1, .i32⟩
  | 58 => ⟨S65536x1, .i1⟩
  | 59 => ⟨S1x1, .i32⟩
  | 60 => ⟨S65536x1, .i32⟩
  | 61 => ⟨S65536x1, .i1⟩
  | 62 => ⟨S65536x1, .i1⟩
  | 63 => ⟨S_, .i1⟩
  | 64 => ⟨S65536, .i1⟩
  | 65 => ⟨S65536x512, .f32⟩
  | 66 => ⟨S65536x512, .i1⟩
  | 67 => ⟨S_, .f32⟩
  | 68 => ⟨S65536x512, .f32⟩
  | 69 => ⟨S65536x512, .f32⟩
  | 70 => ⟨S65536x1024, .f32⟩
  | 71 => ⟨S65536x1344, .f32⟩
  | 72 => ⟨S65536x50, .f32⟩
  | 73 => ⟨S1x50, .f32⟩
  | 74 => ⟨S65536x50, .f32⟩
  | 75 => ⟨S65536x50, .f32⟩
  | 76 => ⟨S_, .f32⟩
  | 77 => ⟨S65536x50, .f32⟩
  | 78 => ⟨S65536x50, .f32⟩
  | 79 => ⟨S65536x1, .f32⟩
  | 80 => ⟨S1x1, .f32⟩
  | 81 => ⟨S65536x1, .f32⟩
  | 82 => ⟨S65536x1, .f32⟩
  | 83 => ⟨S65536, .f32⟩
  | 84 => ⟨S3276, .f32⟩
  | 85 => ⟨S3276, .i32⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_call0_cst : Ref sig .tc := ⟨.hbm, 21, rfl⟩
abbrev main_call0_v0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c : Ref sig .tc := ⟨.hbm, 37, rfl⟩
abbrev main_c_0 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_v22 : Ref sig .tc := ⟨.hbm, 44, rfl⟩
abbrev main_v23 : Ref sig .tc := ⟨.hbm, 45, rfl⟩
abbrev main_call2_c : Ref sig .tc := ⟨.hbm, 46, rfl⟩
abbrev main_call2_v0 : Ref sig .tc := ⟨.hbm, 47, rfl⟩
abbrev main_call2_v1 : Ref sig .tc := ⟨.hbm, 48, rfl⟩
abbrev main_call2_c_0 : Ref sig .tc := ⟨.hbm, 49, rfl⟩
abbrev main_call2_v2 : Ref sig .tc := ⟨.hbm, 50, rfl⟩
abbrev main_call2_v3 : Ref sig .tc := ⟨.hbm, 51, rfl⟩
abbrev main_call2_v4 : Ref sig .tc := ⟨.hbm, 52, rfl⟩
abbrev main_call2_v5 : Ref sig .tc := ⟨.hbm, 53, rfl⟩
abbrev main_call2_c_1 : Ref sig .tc := ⟨.hbm, 54, rfl⟩
abbrev main_call2_c_2 : Ref sig .tc := ⟨.hbm, 55, rfl⟩
abbrev main_call2_v6 : Ref sig .tc := ⟨.hbm, 56, rfl⟩
abbrev main_call2_v7 : Ref sig .tc := ⟨.hbm, 57, rfl⟩
abbrev main_call2_v8 : Ref sig .tc := ⟨.hbm, 58, rfl⟩
abbrev main_call2_v9 : Ref sig .tc := ⟨.hbm, 59, rfl⟩
abbrev main_call2_v10 : Ref sig .tc := ⟨.hbm, 60, rfl⟩
abbrev main_call2_v11 : Ref sig .tc := ⟨.hbm, 61, rfl⟩
abbrev main_call2_c_3 : Ref sig .tc := ⟨.hbm, 62, rfl⟩
abbrev main_call2_v12 : Ref sig .tc := ⟨.hbm, 63, rfl⟩
abbrev main_call2_v13 : Ref sig .tc := ⟨.hbm, 64, rfl⟩
abbrev main_call2_cst : Ref sig .tc := ⟨.hbm, 65, rfl⟩
abbrev main_call2_v14 : Ref sig .tc := ⟨.hbm, 66, rfl⟩
abbrev main_v24 : Ref sig .tc := ⟨.hbm, 67, rfl⟩
abbrev main_cst : Ref sig .tc := ⟨.hbm, 68, rfl⟩
abbrev main_call3_v0 : Ref sig .tc := ⟨.hbm, 69, rfl⟩
abbrev main_call3_v1 : Ref sig .tc := ⟨.hbm, 70, rfl⟩
abbrev main_v25 : Ref sig .tc := ⟨.hbm, 71, rfl⟩
abbrev main_cst_1 : Ref sig .tc := ⟨.hbm, 72, rfl⟩
abbrev main_v26 : Ref sig .tc := ⟨.hbm, 73, rfl⟩
abbrev main_cst_2 : Ref sig .tc := ⟨.hbm, 74, rfl⟩
abbrev main_v27 : Ref sig .tc := ⟨.hbm, 75, rfl⟩
abbrev main_v28 : Ref sig .tc := ⟨.hbm, 76, rfl⟩
abbrev main_v29 : Ref sig .tc := ⟨.hbm, 77, rfl⟩
abbrev main_v30 : Ref sig .tc := ⟨.hbm, 78, rfl⟩
abbrev main_v31 : Ref sig .tc := ⟨.hbm, 79, rfl⟩
abbrev main_v32 : Ref sig .tc := ⟨.hbm, 80, rfl⟩
abbrev main_cst_3 : Ref sig .tc := ⟨.hbm, 81, rfl⟩
abbrev main_v33 : Ref sig .tc := ⟨.hbm, 82, rfl⟩
abbrev main_v34 : Ref sig .tc := ⟨.hbm, 83, rfl⟩
abbrev main_v35 : Ref sig .tc := ⟨.hbm, 84, rfl⟩
abbrev main_v36 : Ref sig .tc := ⟨.hbm, 85, rfl⟩
abbrev main_call4_c : Ref sig .tc := ⟨.hbm, 86, rfl⟩
abbrev main_call4_v0 : Ref sig .tc := ⟨.hbm, 87, rfl⟩
abbrev main_call4_v1 : Ref sig .tc := ⟨.hbm, 88, rfl⟩
abbrev main_call4_c_0 : Ref sig .tc := ⟨.hbm, 89, rfl⟩
abbrev main_call4_v2 : Ref sig .tc := ⟨.hbm, 90, rfl⟩
abbrev main_call4_v3 : Ref sig .tc := ⟨.hbm, 91, rfl⟩
abbrev main_call4_v4 : Ref sig .tc := ⟨.hbm, 92, rfl⟩
abbrev main_call4_v5 : Ref sig .tc := ⟨.hbm, 93, rfl⟩
abbrev main_call4_c_1 : Ref sig .tc := ⟨.hbm, 94, rfl⟩
abbrev main_call4_c_2 : Ref sig .tc := ⟨.hbm, 95, rfl⟩
abbrev main_call4_v6 : Ref sig .tc := ⟨.hbm, 96, rfl⟩
abbrev main_call4_v7 : Ref sig .tc := ⟨.hbm, 97, rfl⟩
abbrev main_call4_v8 : Ref sig .tc := ⟨.hbm, 98, rfl⟩
abbrev main_call4_v9 : Ref sig .tc := ⟨.hbm, 99, rfl⟩
abbrev main_call4_v10 : Ref sig .tc := ⟨.hbm, 100, rfl⟩
abbrev main_call4_v11 : Ref sig .tc := ⟨.hbm, 101, rfl⟩
abbrev main_call4_c_3 : Ref sig .tc := ⟨.hbm, 102, rfl⟩
abbrev main_call4_v12 : Ref sig .tc := ⟨.hbm, 103, rfl⟩
abbrev main_call4_v13 : Ref sig .tc := ⟨.hbm, 104, rfl⟩
abbrev main_call4_v14 : Ref sig .tc := ⟨.hbm, 105, rfl⟩
abbrev main_call4_cst : Ref sig .tc := ⟨.hbm, 106, rfl⟩
abbrev main_call4_v15 : Ref sig .tc := ⟨.hbm, 107, rfl⟩
abbrev main_v37 : Ref sig .tc := ⟨.hbm, 108, rfl⟩
abbrev main_v38 : Ref sig .tc := ⟨.hbm, 109, rfl⟩
abbrev main_v39 : Ref sig .tc := ⟨.hbm, 110, rfl⟩
abbrev main_v40 : Ref sig .tc := ⟨.hbm, 111, rfl⟩
abbrev main_cst_4 : Ref sig .tc := ⟨.hbm, 112, rfl⟩
abbrev main_v41 : Ref sig .tc := ⟨.hbm, 113, rfl⟩
abbrev main_v42 : Ref sig .tc := ⟨.hbm, 114, rfl⟩
abbrev main_c_5 : Ref sig .tc := ⟨.hbm, 115, rfl⟩
abbrev main_v43 : Ref sig .tc := ⟨.hbm, 116, rfl⟩
abbrev main_v44 : Ref sig .tc := ⟨.hbm, 117, rfl⟩
abbrev main_c_6 : Ref sig .tc := ⟨.hbm, 118, rfl⟩
abbrev main_v45 : Ref sig .tc := ⟨.hbm, 119, rfl⟩
abbrev main_v46 : Ref sig .tc := ⟨.hbm, 120, rfl⟩
abbrev main_c_7 : Ref sig .tc := ⟨.hbm, 121, rfl⟩
abbrev main_c_8 : Ref sig .tc := ⟨.hbm, 122, rfl⟩
abbrev main_call5_v0 : Ref sig .tc := ⟨.hbm, 123, rfl⟩
abbrev main_call5_v1 : Ref sig .tc := ⟨.hbm, 124, rfl⟩
abbrev main_call5_v2 : Ref sig .tc := ⟨.hbm, 125, rfl⟩
abbrev main_call5_v3 : Ref sig .tc := ⟨.hbm, 126, rfl⟩
abbrev main_call5_v4 : Ref sig .tc := ⟨.hbm, 127, rfl⟩
abbrev main_v47 : Ref sig .tc := ⟨.hbm, 128, rfl⟩
abbrev main_call6_c : Ref sig .tc := ⟨.hbm, 129, rfl⟩
abbrev main_call6_v0 : Ref sig .tc := ⟨.hbm, 130, rfl⟩
abbrev main_call6_v1 : Ref sig .tc := ⟨.hbm, 131, rfl⟩
abbrev main_call6_c_0 : Ref sig .tc := ⟨.hbm, 132, rfl⟩
abbrev main_call6_v2 : Ref sig .tc := ⟨.hbm, 133, rfl⟩
abbrev main_call6_v3 : Ref sig .tc := ⟨.hbm, 134, rfl⟩
abbrev main_call6_v4 : Ref sig .tc := ⟨.hbm, 135, rfl⟩
abbrev main_call6_v5 : Ref sig .tc := ⟨.hbm, 136, rfl⟩
abbrev main_call6_c_1 : Ref sig .tc := ⟨.hbm, 137, rfl⟩
abbrev main_call6_c_2 : Ref sig .tc := ⟨.hbm, 138, rfl⟩
abbrev main_call6_v6 : Ref sig .tc := ⟨.hbm, 139, rfl⟩
abbrev main_call6_v7 : Ref sig .tc := ⟨.hbm, 140, rfl⟩
abbrev main_call6_v8 : Ref sig .tc := ⟨.hbm, 141, rfl⟩
abbrev main_call6_v9 : Ref sig .tc := ⟨.hbm, 142, rfl⟩
abbrev main_call6_v10 : Ref sig .tc := ⟨.hbm, 143, rfl⟩
abbrev main_call6_v11 : Ref sig .tc := ⟨.hbm, 144, rfl⟩
abbrev main_call6_c_3 : Ref sig .tc := ⟨.hbm, 145, rfl⟩
abbrev main_call6_v12 : Ref sig .tc := ⟨.hbm, 146, rfl⟩
abbrev main_call6_v13 : Ref sig .tc := ⟨.hbm, 147, rfl⟩
abbrev main_call6_v14 : Ref sig .tc := ⟨.hbm, 148, rfl⟩
abbrev main_call6_cst : Ref sig .tc := ⟨.hbm, 149, rfl⟩
abbrev main_call6_v15 : Ref sig .tc := ⟨.hbm, 150, rfl⟩
abbrev main_v48 : Ref sig .tc := ⟨.hbm, 151, rfl⟩
abbrev main_call7_c : Ref sig .tc := ⟨.hbm, 152, rfl⟩
abbrev main_call7_v0 : Ref sig .tc := ⟨.hbm, 153, rfl⟩
abbrev main_call7_v1 : Ref sig .tc := ⟨.hbm, 154, rfl⟩
abbrev main_call7_c_0 : Ref sig .tc := ⟨.hbm, 155, rfl⟩
abbrev main_call7_v2 : Ref sig .tc := ⟨.hbm, 156, rfl⟩
abbrev main_call7_v3 : Ref sig .tc := ⟨.hbm, 157, rfl⟩
abbrev main_call7_v4 : Ref sig .tc := ⟨.hbm, 158, rfl⟩
abbrev main_call7_v5 : Ref sig .tc := ⟨.hbm, 159, rfl⟩
abbrev main_call7_c_1 : Ref sig .tc := ⟨.hbm, 160, rfl⟩
abbrev main_call7_c_2 : Ref sig .tc := ⟨.hbm, 161, rfl⟩
abbrev main_call7_v6 : Ref sig .tc := ⟨.hbm, 162, rfl⟩
abbrev main_call7_v7 : Ref sig .tc := ⟨.hbm, 163, rfl⟩
abbrev main_call7_v8 : Ref sig .tc := ⟨.hbm, 164, rfl⟩
abbrev main_call7_v9 : Ref sig .tc := ⟨.hbm, 165, rfl⟩
abbrev main_call7_v10 : Ref sig .tc := ⟨.hbm, 166, rfl⟩
abbrev main_call7_v11 : Ref sig .tc := ⟨.hbm, 167, rfl⟩
abbrev main_call7_c_3 : Ref sig .tc := ⟨.hbm, 168, rfl⟩
abbrev main_call7_v12 : Ref sig .tc := ⟨.hbm, 169, rfl⟩
abbrev main_call7_v13 : Ref sig .tc := ⟨.hbm, 170, rfl⟩
abbrev main_call7_v14 : Ref sig .tc := ⟨.hbm, 171, rfl⟩
abbrev main_call7_cst : Ref sig .tc := ⟨.hbm, 172, rfl⟩
abbrev main_call7_v15 : Ref sig .tc := ⟨.hbm, 173, rfl⟩
abbrev main_v49 : Ref sig .tc := ⟨.hbm, 174, rfl⟩
abbrev main_call8_c : Ref sig .tc := ⟨.hbm, 175, rfl⟩
abbrev main_call8_v0 : Ref sig .tc := ⟨.hbm, 176, rfl⟩
abbrev main_call8_v1 : Ref sig .tc := ⟨.hbm, 177, rfl⟩
abbrev main_call8_c_0 : Ref sig .tc := ⟨.hbm, 178, rfl⟩
abbrev main_call8_v2 : Ref sig .tc := ⟨.hbm, 179, rfl⟩
abbrev main_call8_v3 : Ref sig .tc := ⟨.hbm, 180, rfl⟩
abbrev main_call8_v4 : Ref sig .tc := ⟨.hbm, 181, rfl⟩
abbrev main_call8_v5 : Ref sig .tc := ⟨.hbm, 182, rfl⟩
abbrev main_call8_c_1 : Ref sig .tc := ⟨.hbm, 183, rfl⟩
abbrev main_call8_c_2 : Ref sig .tc := ⟨.hbm, 184, rfl⟩
abbrev main_call8_v6 : Ref sig .tc := ⟨.hbm, 185, rfl⟩
abbrev main_call8_v7 : Ref sig .tc := ⟨.hbm, 186, rfl⟩
abbrev main_call8_v8 : Ref sig .tc := ⟨.hbm, 187, rfl⟩
abbrev main_call8_v9 : Ref sig .tc := ⟨.hbm, 188, rfl⟩
abbrev main_call8_v10 : Ref sig .tc := ⟨.hbm, 189, rfl⟩
abbrev main_call8_v11 : Ref sig .tc := ⟨.hbm, 190, rfl⟩
abbrev main_call8_c_3 : Ref sig .tc := ⟨.hbm, 191, rfl⟩
abbrev main_call8_v12 : Ref sig .tc := ⟨.hbm, 192, rfl⟩
abbrev main_call8_v13 : Ref sig .tc := ⟨.hbm, 193, rfl⟩
abbrev main_call8_v14 : Ref sig .tc := ⟨.hbm, 194, rfl⟩
abbrev main_call8_cst : Ref sig .tc := ⟨.hbm, 195, rfl⟩
abbrev main_call8_v15 : Ref sig .tc := ⟨.hbm, 196, rfl⟩
abbrev main_v50 : Ref sig .tc := ⟨.hbm, 197, rfl⟩
abbrev main_v51 : Ref sig .tc := ⟨.hbm, 198, rfl⟩
abbrev main_v52 : Ref sig .tc := ⟨.hbm, 199, rfl⟩
abbrev main_v53 : Ref sig .tc := ⟨.hbm, 200, rfl⟩
abbrev main_v54 : Ref sig .tc := ⟨.hbm, 201, rfl⟩
abbrev main_v55 : Ref sig .tc := ⟨.hbm, 202, rfl⟩
abbrev main_v56 : Ref sig .tc := ⟨.hbm, 203, rfl⟩
abbrev main_call9_cst : Ref sig .tc := ⟨.hbm, 204, rfl⟩
abbrev main_call9_v0 : Ref sig .tc := ⟨.hbm, 205, rfl⟩
abbrev main_v57 : Ref sig .tc := ⟨.hbm, 206, rfl⟩
abbrev main_v58 : Ref sig .tc := ⟨.hbm, 207, rfl⟩
abbrev main_v59 : Ref sig .tc := ⟨.hbm, 208, rfl⟩
abbrev main_v60 : Ref sig .tc := ⟨.hbm, 209, rfl⟩
abbrev main_v61 : Ref sig .tc := ⟨.hbm, 210, rfl⟩
abbrev main_v62 : Ref sig .tc := ⟨.hbm, 211, rfl⟩
abbrev main_values : Ref sig .tc := ⟨.hbm, 212, rfl⟩
abbrev main_indices : Ref sig .tc := ⟨.hbm, 213, rfl⟩

abbrev nD : Nat := 1
abbrev τ : Topo := Topo.v7x

variable {F : FTy → Type} [FloatOps F]
-- ==== Proof.Spec.lean ====
/- What a span's features and scores are, entry by entry, as sums and maxima over the extended reals. -/
module

public import Idealize.ShloMosaic.Lib.Pointwise

@[expose] public section

set_option maxRecDepth 16384

noncomputable section

namespace Cert.Mention

open Idealize.ShloMosaic

/-- The token at position `n`, positions past the end of the document read as its last token. -/
def tok (n : ℕ) : Fin 8192 := ⟨min n 8191, by omega⟩

/-- The weight of a position outside the span, before the exponential: minus infinity. -/
abbrev NEG : EReal := Ideal.ofBits FTy.f32 4286578688#32

/-- One hidden layer of 50 units with a rectifier, and one output: the score of a row `x` of `D` numbers. -/
def mlp {D : ℕ} (W₁ : (⟨2, ![D, 50]⟩ : Shape).Idx → EReal) (b₁ : (⟨1, ![50]⟩ : Shape).Idx → EReal)
    (W₂ : (⟨2, ![50, 1]⟩ : Shape).Idx → EReal) (b₂ : (⟨1, ![1]⟩ : Shape).Idx → EReal) (x : Fin D → EReal) : EReal :=
  ∑ h : Fin 50, max (∑ d : Fin D, x d * W₁ (ix2 d h) + b₁ (ix1 h)) 0 * W₂ (ix2 h 0) + b₂ (ix1 0)

/-- The attention logit of offset `o` in the span that starts at `i` and has index `w`. -/
def logit (S : (⟨2, ![8192, 512]⟩ : Shape).Idx → EReal) (W₁ : (⟨2, ![512, 50]⟩ : Shape).Idx → EReal)
    (b₁ : (⟨1, ![50]⟩ : Shape).Idx → EReal) (W₂ : (⟨2, ![50, 1]⟩ : Shape).Idx → EReal) (b₂ : (⟨1, ![1]⟩ : Shape).Idx → EReal)
    (i w : ℕ) (o : Fin 8) : EReal :=
  if i + o.val ≤ min (i + w) 8191 then mlp W₁ b₁ W₂ b₂ (fun d => S (ix2 (tok (i + o.val)) d)) else NEG

/-- The exponential of a logit less the largest logit. -/
def expo (l : Fin 8 → EReal) (o : Fin 8) : EReal := Ideal.exp (l o - Finset.fold max NEG l Finset.univ)

/-- The softmax weight of a logit among eight. -/
def weight (l : Fin 8 → EReal) (o : Fin 8) : EReal :=
  Ideal.div (expo l o) (∑ q : Fin 8, expo l q)

/-- Feature `c` of the span that starts at token `i` and has index `w`: the start token's state, the end token's state,
    the attention-weighted embedding of the span's tokens, the embedding of the span's width. -/
def feature (S : (⟨2, ![8192, 512]⟩ : Shape).Idx → EReal) (E : (⟨2, ![8192, 300]⟩ : Shape).Idx → EReal)
    (W₁ : (⟨2, ![512, 50]⟩ : Shape).Idx → EReal)
    (b₁ : (⟨1, ![50]⟩ : Shape).Idx → EReal) (W₂ : (⟨2, ![50, 1]⟩ : Shape).Idx → EReal) (b₂ : (⟨1, ![1]⟩ : Shape).Idx → EReal)
    (We : (⟨2, ![8, 20]⟩ : Shape).Idx → EReal) (i : ℕ) (w : Fin 8) (c : Fin 1344) : EReal :=
  if h₀ : c.val < 512 then S (ix2 (tok i) ⟨c.val, h₀⟩)
  else if h₁ : c.val < 1024 then S (ix2 (tok (i + w.val)) ⟨c.val - 512, by omega⟩)
  else if h₂ : c.val < 1324 then
    ∑ o : Fin 8, E (ix2 (tok (i + o.val)) ⟨c.val - 1024, by omega⟩) * weight (logit S W₁ b₁ W₂ b₂ i w.val) o
  else We (ix2 ⟨min w.val (8191 - i), by omega⟩ ⟨c.val - 1324, by omega⟩)

/-- What the spans table holds: row `8 i + w` starts at token `i` and ends `w` tokens later, or at the last token. -/
def Spans (D : (⟨2, ![65536, 3]⟩ : Shape).Idx → BitVec 32) : Prop :=
  ∀ s : Fin 65536, D (ix2 s 0) = BitVec.ofNat 32 (s.val / 8)
    ∧ D (ix2 s 1) = BitVec.ofNat 32 (min (s.val / 8 + s.val % 8) 8191)

end Cert.Mention

end
-- ==== Proof.Words.lean ====
/- Index words: the minimum, maximum and difference of 32-bit words that hold small natural numbers. -/
module

public import Idealize.ShloMosaic.Lib.Pointwise
public import Idealize.ShloMosaic.Lib.WordCmp
public import Idealize.ShloMosaic.Lib.Routing.Ops

@[expose] public section

set_option maxRecDepth 16384

noncomputable section

namespace Cert.Mention

open Idealize.ShloMosaic

/-- The signed minimum of two small words is the word of the minimum. -/
theorem minsi_small {a b : ℕ} (ha : a < 2 ^ 31) (hb : b < 2 ^ 31) :
    IntOp.minsi (BitVec.ofNat 32 a) (BitVec.ofNat 32 b) = BitVec.ofNat 32 (min a b) := by
  have h : (BitVec.ofNat 32 a).slt (BitVec.ofNat 32 b) = decide (a < b) := by
    rw [BitVec.slt, WordCmp.toInt_ofNat_of_lt (by simpa using ha), WordCmp.toInt_ofNat_of_lt (by simpa using hb)]
    simp
  unfold IntOp.minsi
  rw [h]
  by_cases hab : a < b
  · rw [if_pos (by simpa using hab), Nat.min_eq_left hab.le]
  · rw [if_neg (by simpa using hab), Nat.min_eq_right (by omega)]

/-- The signed maximum of two small words is the word of the maximum. -/
theorem maxsi_small {a b : ℕ} (ha : a < 2 ^ 31) (hb : b < 2 ^ 31) :
    IntOp.maxsi (BitVec.ofNat 32 a) (BitVec.ofNat 32 b) = BitVec.ofNat 32 (max a b) := by
  have h : (BitVec.ofNat 32 b).slt (BitVec.ofNat 32 a) = decide (b < a) := by
    rw [BitVec.slt, WordCmp.toInt_ofNat_of_lt (by simpa using hb), WordCmp.toInt_ofNat_of_lt (by simpa using ha)]
    simp
  unfold IntOp.maxsi
  rw [h]
  by_cases hab : b < a
  · rw [if_pos (by simpa using hab), Nat.max_eq_left hab.le]
  · rw [if_neg (by simpa using hab), Nat.max_eq_right (by omega)]

/-- The difference of two words whose numbers do not underflow is the word of the difference. -/
theorem subi_small {a b : ℕ} (ha : a < 2 ^ 31) (hb : b ≤ a) :
    IntOp.subi (BitVec.ofNat 32 a) (BitVec.ofNat 32 b) = BitVec.ofNat 32 (a - b) := by
  unfold IntOp.subi
  apply BitVec.eq_of_toNat_eq
  simp only [BitVec.toNat_sub, BitVec.toNat_ofNat]
  omega

/-- Whether one small word is at most another, as a bit. -/
theorem sle_small {a b : ℕ} (ha : a < 2 ^ 31) (hb : b < 2 ^ 31) :
    IntOp.cmpi .sle (BitVec.ofNat 32 a) (BitVec.ofNat 32 b) = BitVec.ofBool (decide (a ≤ b)) :=
  WordCmp.cmpi_sle_ofNat (by simpa using ha) (by simpa using hb)

/-- Whether one small word is at least another, as a bit. -/
theorem sge_small {a b : ℕ} (ha : a < 2 ^ 31) (hb : b < 2 ^ 31) :
    IntOp.cmpi .sge (BitVec.ofNat 32 a) (BitVec.ofNat 32 b) = BitVec.ofBool (decide (b ≤ a)) :=
  WordCmp.cmpi_sge_ofNat (by simpa using ha) (by simpa using hb)

/-- Whether one small word is below another, as a bit. -/
theorem slt_small {a b : ℕ} (ha : a < 2 ^ 31) (hb : b < 2 ^ 31) :
    IntOp.cmpi .slt (BitVec.ofNat 32 a) (BitVec.ofNat 32 b) = BitVec.ofBool (decide (a < b)) :=
  WordCmp.cmpi_slt_ofNat (by simpa using ha) (by simpa using hb)

/-- Whether two small words are equal, as a bit. -/
theorem eq_small {a b : ℕ} (ha : a < 2 ^ 31) (hb : b < 2 ^ 31) :
    IntOp.cmpi .eq (BitVec.ofNat 32 a) (BitVec.ofNat 32 b) = BitVec.ofBool (decide (a = b)) :=
  WordCmp.cmpi_eq_ofNat (by omega) (by omega)

/-- The index that an array lookup settles on: a word in range is kept by the wrap of negative indices. -/
theorem wrap_small {a : ℕ} (ha : a < 2 ^ 31) (n : BitVec 32) :
    Scalar.select (IntOp.cmpi .slt (BitVec.ofNat 32 a) 0#32) (IntOp.addi (BitVec.ofNat 32 a) n) (BitVec.ofNat 32 a)
      = BitVec.ofNat 32 a := by
  rw [show (0#32 : BitVec 32) = BitVec.ofNat 32 0 from rfl, slt_small ha (by norm_num), WordCmp.select_ofBool]
  simp

/-- The range test of an array lookup succeeds on a word in range. -/
theorem inrange_small {a n : ℕ} (hn : n < 2 ^ 31) (ha : a ≤ n) :
    IntOp.andi (IntOp.cmpi .sge (BitVec.ofNat 32 a) 0#32) (IntOp.cmpi .sle (BitVec.ofNat 32 a) (BitVec.ofNat 32 n)) = 1#1 := by
  rw [show (0#32 : BitVec 32) = BitVec.ofNat 32 0 from rfl, sge_small (by omega) (by norm_num), sle_small (by omega) hn]
  simp [ha, IntOp.andi]

/-- A lookup of one row per entry of a rectangle of row numbers: where the word at `(s, o)` names row `b`, entry
    `(s, o, y)` of the result is the table's entry `(b, y)`. -/
theorem gather_rows {α : Type} {N B R C : ℕ}
    (wf : GatherDims.WF ⟨2, ![N, B]⟩ ⟨3, ![R, C, 1]⟩ ⟨3, ![R, C, B]⟩ [2] [0] [] [0] [] 2 ![1, B])
    (x : (⟨2, ![N, B]⟩ : Shape).Idx → α) (idx : IVec ⟨3, ![R, C, 1]⟩ 32) (s : Fin R) (o : Fin C) (y : Fin B) (b : Fin N)
    (hN : N < 2 ^ 31) (hb : idx (ix3 s o 0) = BitVec.ofNat 32 b.val) :
    Host.gather (s := ⟨2, ![N, B]⟩) (t := ⟨3, ![R, C, B]⟩)
      { offsetDims := [2], collapsedSliceDims := [0], operandBatchingDims := [], startIndicesBatchingDims := [],
        startIndexMap := [0], indexVectorDim := 2, sliceSizes := ![1, B], wf := wf } x idx (ix3 s o y) = x (ix2 b y) := by
  unfold Host.gather
  refine congrArg x (funext fun a => Fin.ext ?_)
  set d : GatherDims ⟨2, ![N, B]⟩ ⟨3, ![R, C, 1]⟩ ⟨3, ![R, C, B]⟩ :=
    { offsetDims := [2], collapsedSliceDims := [0], operandBatchingDims := [], startIndicesBatchingDims := [],
      startIndexMap := [0], indexVectorDim := 2, sliceSizes := ![1, B], wf := wf } with hd
  show d.start (ix3 s o y) idx a + d.batchCoord (ix3 s o y) a + d.offCoord (ix3 s o y) a = _
  rw [GatherDims.batchCoord_eq_zero _ _ _ List.not_mem_nil, Nat.add_zero]
  match a with
  | ⟨0, _⟩ =>
    rw [GatherDims.offCoord_eq_zero _ _ _ (fun h => ((GatherDims.mem_sKept _ _).mp h).1 (List.mem_singleton.mpr rfl)),
      Nat.add_zero]
    unfold GatherDims.start
    rw [dif_pos (show (⟨0, _⟩ : Fin 2) ∈ d.startIndexMap from List.mem_singleton.mpr rfl)]
    have hsi : d.siIdx (ix3 s o y) ⟨List.idxOf (0 : Fin 2) d.startIndexMap,
        List.idxOf_lt_length_iff.2 (List.mem_singleton.mpr rfl)⟩ = ix3 s o 0 := by
      funext c; refine Fin.ext ?_
      match c with
      | ⟨0, _⟩ => rfl
      | ⟨1, _⟩ => rfl
      | ⟨2, _⟩ => rfl
    have hval : (idx (d.siIdx (ix3 s o y) ⟨List.idxOf (0 : Fin 2) d.startIndexMap,
        List.idxOf_lt_length_iff.2 (List.mem_singleton.mpr rfl)⟩)).toInt.toNat = b.val := by
      rw [hsi, hb, WordCmp.toInt_ofNat_of_lt (by have := b.isLt; simp; omega)]; rfl
    have hlt := b.isLt
    show min (idx (d.siIdx (ix3 s o y) ⟨List.idxOf (0 : Fin 2) d.startIndexMap,
        List.idxOf_lt_length_iff.2 (List.mem_singleton.mpr rfl)⟩)).toInt.toNat (N - 1) = b.val
    rw [hval]; omega
  | ⟨1, _⟩ =>
    have hst : d.start (ix3 s o y) idx (1 : Fin 2) = 0 := by
      unfold GatherDims.start
      rw [dif_neg (by rw [hd]; simp)]
    show d.start (ix3 s o y) idx (1 : Fin 2) + d.offCoord (ix3 s o y) (1 : Fin 2) = _
    rw [hst, Nat.zero_add]
    unfold GatherDims.offCoord
    rw [dif_pos (by rw [GatherDims.mem_sKept]; rw [hd]; simp)]
    rfl

end Cert.Mention

end
-- ==== Proof.Ref.lean ====
/- The reference's lookups, softmax and sums, read entry by entry. -/
module

public import proofs.«01_k».proof.Proof.Gen.ReferenceIdeal.Read
public import proofs.«01_k».proof.Proof.Spec
public import proofs.«01_k».proof.Proof.Words

@[expose] public section

set_option maxRecDepth 16384

noncomputable section

namespace Cert.Mention

open Idealize.ShloMosaic Idealize.ShloMosaic.TcCoe Idealize.SL.Sem
open Cert.ReferenceIdeal Cert.ReferenceIdeal.Read

/-- A conjunction over one bit is that bit. -/
theorem all_one (f : Fin 1 → BitVec 1) (h : f 0 = 1#1) : Finset.fold IntOp.andi (1#1) f Finset.univ = 1#1 := by
  rw [Finset.univ_unique, Finset.fold_singleton]
  show IntOp.andi (f 0) 1#1 = 1#1
  rw [h]; rfl

section Indices

variable {D : (⟨2, ![65536, 3]⟩ : Shape).Idx → BitVec 32}

/-- The start word of a span. -/
theorem ref_start (h : Spans D) (s : Fin 65536) : val_main_v1 (F := Ideal) D (ix1 s) = BitVec.ofNat 32 (s.val / 8) := by
  rw [← (h s).1]
  pointwise [val_main_v1, val_main_v0]

/-- The end word of a span. -/
theorem ref_stop (h : Spans D) (s : Fin 65536) :
    val_main_v3 (F := Ideal) D (ix1 s) = BitVec.ofNat 32 (min (s.val / 8 + s.val % 8) 8191) := by
  rw [← (h s).2]
  pointwise [val_main_v3, val_main_v2]

/-- The token of offset `o` in a span, clipped to the document. -/
theorem ref_tok (h : Spans D) (s : Fin 65536) (o : Fin 8) :
    val_main_v22 (F := Ideal) D (ix2 s o) = BitVec.ofNat 32 (tok (s.val / 8 + o.val)).val := by
  pointwise [val_main_v22, val_main_call1_v4, val_main_call1_v3, val_main_call1_v2, val_main_call1_v1, val_main_call1_v0,
    val_main_v18, val_main_v17, val_main_v16, val_main_v15, val_main_v14, val_main_v13, val_main_c, val_main_c_0]
  show IntOp.minsi (BitVec.ofNat 32 8191) (IntOp.maxsi (BitVec.ofNat 32 0)
    (IntOp.addi (val_main_v1 (F := Ideal) D (ix1 s)) (BitVec.ofNat 32 o.val))) = _
  have := s.isLt; have := o.isLt
  rw [ref_start h, WordCmp.addi_ofNat, maxsi_small (by norm_num) (by omega), minsi_small (by norm_num) (by omega)]
  refine congrArg _ ?_
  show min 8191 (max 0 (s.val / 8 + o.val)) = min (s.val / 8 + o.val) 8191
  omega

/-- Whether offset `o` lies inside a span. -/
theorem ref_inside (h : Spans D) (s : Fin 65536) (o : Fin 8) : val_main_v21 (F := Ideal) D (ix2 s o)
    = BitVec.ofBool (decide (s.val / 8 + o.val ≤ min (s.val / 8 + s.val % 8) 8191)) := by
  pointwise [val_main_v21, val_main_v20, val_main_v19, val_main_v18, val_main_v17, val_main_v16, val_main_v15,
    val_main_v14, val_main_v13]
  have := s.isLt; have := o.isLt
  rw [ref_start h, ref_stop h, WordCmp.addi_ofNat, sle_small (by omega) (by omega)]

/-- The width of a span less one, clipped to the table of widths. -/
theorem ref_width (h : Spans D) (s : Fin 65536) : val_main_v47 (F := Ideal) D (ix1 s)
    = BitVec.ofNat 32 (min (s.val % 8) (8191 - s.val / 8)) := by
  pointwise [val_main_v47, val_main_v46, val_main_v45, val_main_v44, val_main_v43, val_main_v42, val_main_c_5, val_main_c_6,
    val_main_c_7, val_main_c_8, val_main_call5_v0, val_main_call5_v1, val_main_call5_v2, val_main_call5_v3, val_main_call5_v4]
  show IntOp.minsi (BitVec.ofNat 32 7) (IntOp.maxsi (BitVec.ofNat 32 0) (IntOp.subi (IntOp.addi
    (IntOp.subi (val_main_v3 (F := Ideal) D (ix1 s)) (val_main_v1 (F := Ideal) D (ix1 s))) (BitVec.ofNat 32 1))
    (BitVec.ofNat 32 1))) = _
  have := s.isLt
  rw [ref_start h, ref_stop h, subi_small (by omega) (by omega), WordCmp.addi_ofNat, subi_small (by omega) (by omega),
    maxsi_small (by norm_num) (by omega), minsi_small (by norm_num) (by omega)]
  refine congrArg _ ?_
  omega

/-- The row numbers of the lookup of the tokens' logits. -/
theorem ref_idx2 (h : Spans D) (s : Fin 65536) (o : Fin 8) :
    val_main_call2_v5 (F := Ideal) D (ix3 s o 0) = BitVec.ofNat 32 (tok (s.val / 8 + o.val)).val := by
  pointwise [val_main_call2_v5, val_main_call2_v4, val_main_call2_v3, val_main_call2_v2, val_main_call2_v1, val_main_call2_v0, val_main_call2_c, val_main_call2_c_0]
  have := (tok (s.val / 8 + o.val)).isLt
  rw [ref_tok h, wrap_small (by omega)]

/-- Each row number of the lookup of the tokens' logits is in range. -/
theorem ref_ok2 (h : Spans D) (s : Fin 65536) (o : Fin 8) : val_main_call2_v12 (F := Ideal) D (ix2 s o) = 1#1 := by
  pointwise [val_main_call2_v12, val_main_call2_v11, val_main_call2_c_3, val_main_call2_v10, val_main_call2_v9, val_main_call2_v8, val_main_call2_v7, val_main_call2_v6, val_main_call2_c_2, val_main_call2_c_1]
  refine all_one _ ?_
  have := (tok (s.val / 8 + o.val)).isLt
  rw [ref_idx2 h]
  exact inrange_small (by norm_num) (by omega)

/-- The row numbers of the lookup of the tokens' embeddings. -/
theorem ref_idx4 (h : Spans D) (s : Fin 65536) (o : Fin 8) :
    val_main_call4_v5 (F := Ideal) D (ix3 s o 0) = BitVec.ofNat 32 (tok (s.val / 8 + o.val)).val := by
  pointwise [val_main_call4_v5, val_main_call4_v4, val_main_call4_v3, val_main_call4_v2, val_main_call4_v1, val_main_call4_v0, val_main_call4_c, val_main_call4_c_0]
  have := (tok (s.val / 8 + o.val)).isLt
  rw [ref_tok h, wrap_small (by omega)]

/-- Each row number of the lookup of the tokens' embeddings is in range. -/
theorem ref_ok4 (h : Spans D) (s : Fin 65536) (o : Fin 8) : val_main_call4_v12 (F := Ideal) D (ix2 s o) = 1#1 := by
  pointwise [val_main_call4_v12, val_main_call4_v11, val_main_call4_c_3, val_main_call4_v10, val_main_call4_v9, val_main_call4_v8, val_main_call4_v7, val_main_call4_v6, val_main_call4_c_2, val_main_call4_c_1]
  refine all_one _ ?_
  have := (tok (s.val / 8 + o.val)).isLt
  rw [ref_idx4 h]
  exact inrange_small (by norm_num) (by omega)

/-- The row numbers of the lookup of the widths. -/
theorem ref_idx6 (h : Spans D) (s : Fin 65536) :
    val_main_call6_v5 (F := Ideal) D (ix2 s 0) = BitVec.ofNat 32 (min (s.val % 8) (8191 - s.val / 8)) := by
  pointwise [val_main_call6_v5, val_main_call6_v4, val_main_call6_v3, val_main_call6_v2, val_main_call6_v1, val_main_call6_v0, val_main_call6_c, val_main_call6_c_0]
  have := s.isLt
  rw [ref_width h, wrap_small (by omega)]

/-- Each row number of the lookup of the widths is in range. -/
theorem ref_ok6 (h : Spans D) (s : Fin 65536) : val_main_call6_v12 (F := Ideal) D (ix1 s) = 1#1 := by
  pointwise [val_main_call6_v12, val_main_call6_v11, val_main_call6_c_3, val_main_call6_v10, val_main_call6_v9, val_main_call6_v8, val_main_call6_v7, val_main_call6_v6, val_main_call6_c_2, val_main_call6_c_1]
  refine all_one _ ?_
  have := s.isLt
  rw [ref_idx6 h]
  exact inrange_small (by norm_num) (by omega)

/-- The row numbers of the lookup of the start tokens. -/
theorem ref_idx7 (h : Spans D) (s : Fin 65536) :
    val_main_call7_v5 (F := Ideal) D (ix2 s 0) = BitVec.ofNat 32 (s.val / 8) := by
  pointwise [val_main_call7_v5, val_main_call7_v4, val_main_call7_v3, val_main_call7_v2, val_main_call7_v1, val_main_call7_v0, val_main_call7_c, val_main_call7_c_0]
  have := s.isLt
  rw [ref_start h, wrap_small (by omega)]

/-- Each row number of the lookup of the start tokens is in range. -/
theorem ref_ok7 (h : Spans D) (s : Fin 65536) : val_main_call7_v12 (F := Ideal) D (ix1 s) = 1#1 := by
  pointwise [val_main_call7_v12, val_main_call7_v11, val_main_call7_c_3, val_main_call7_v10, val_main_call7_v9, val_main_call7_v8, val_main_call7_v7, val_main_call7_v6, val_main_call7_c_2, val_main_call7_c_1]
  refine all_one _ ?_
  have := s.isLt
  rw [ref_idx7 h]
  exact inrange_small (by norm_num) (by omega)

/-- The row numbers of the lookup of the end tokens. -/
theorem ref_idx8 (h : Spans D) (s : Fin 65536) :
    val_main_call8_v5 (F := Ideal) D (ix2 s 0) = BitVec.ofNat 32 (min (s.val / 8 + s.val % 8) 8191) := by
  pointwise [val_main_call8_v5, val_main_call8_v4, val_main_call8_v3, val_main_call8_v2, val_main_call8_v1, val_main_call8_v0, val_main_call8_c, val_main_call8_c_0]
  have := s.isLt
  rw [ref_stop h, wrap_small (by omega)]

/-- Each row number of the lookup of the end tokens is in range. -/
theorem ref_ok8 (h : Spans D) (s : Fin 65536) : val_main_call8_v12 (F := Ideal) D (ix1 s) = 1#1 := by
  pointwise [val_main_call8_v12, val_main_call8_v11, val_main_call8_c_3, val_main_call8_v10, val_main_call8_v9, val_main_call8_v8, val_main_call8_v7, val_main_call8_v6, val_main_call8_c_2, val_main_call8_c_1]
  refine all_one _ ?_
  have := s.isLt
  rw [ref_idx8 h]
  exact inrange_small (by norm_num) (by omega)

end Indices

variable {D : (⟨2, ![65536, 3]⟩ : Shape).Idx → BitVec 32}
    (S : (⟨2, ![8192, 512]⟩ : Shape).Idx → EReal) (E : (⟨2, ![8192, 300]⟩ : Shape).Idx → EReal)
    (W₁ : (⟨2, ![512, 50]⟩ : Shape).Idx → EReal)
    (b₁ : (⟨1, ![50]⟩ : Shape).Idx → EReal) (W₂ : (⟨2, ![50, 1]⟩ : Shape).Idx → EReal) (b₂ : (⟨1, ![1]⟩ : Shape).Idx → EReal)
    (We : (⟨2, ![8, 20]⟩ : Shape).Idx → EReal)

/-- The attention logit of a token. -/
theorem ref_att (s : Fin 8192) : val_main_v23 (F := Ideal) S W₁ b₁ W₂ b₂ (ix1 s) = mlp W₁ b₁ W₂ b₂ (fun d => S (ix2 s d)) := by
  unfold mlp
  pointwise [val_main_v23, val_main_v12, val_main_v11, val_main_v10, val_main_v9, val_main_v8, val_main_v7, val_main_v6,
    val_main_v5, val_main_v4, val_main_call0_v0, val_main_call0_cst]

/-- The looked-up logit of offset `o` of a span. -/
theorem ref_look2 (h : Spans D) (s : Fin 65536) (o : Fin 8) : val_main_v24 (F := Ideal) S D W₁ b₁ W₂ b₂ (ix2 s o)
    = mlp W₁ b₁ W₂ b₂ (fun d => S (ix2 (tok (s.val / 8 + o.val)) d)) := by
  rw [val_main_v24_apply, ref_ok2 h, ← ref_att]
  show val_main_call2_v13 (F := Ideal) S D W₁ b₁ W₂ b₂ (ix2 s o) = _
  unfold val_main_call2_v13
  refine (ValueIdx.gather_take_apply (by norm_num) _ _ _ _).trans (congrArg _ ?_)
  have hlt := (tok (s.val / 8 + o.val)).isLt
  funext a
  match a with
  | ⟨0, _⟩ =>
    refine Fin.ext ?_
    show min (val_main_call2_v5 (F := Ideal) D (ix3 s o 0)).toInt.toNat 8191 = (tok (s.val / 8 + o.val)).val
    rw [ref_idx2 h, WordCmp.toInt_ofNat_of_lt (by simp; omega), Int.toNat_natCast]
    omega

/-- The looked-up embedding of offset `o` of a span. -/
theorem ref_look4 (h : Spans D) (s : Fin 65536) (o : Fin 8) (e : Fin 300) : val_main_v37 (F := Ideal) E D (ix3 s o e)
    = E (ix2 (tok (s.val / 8 + o.val)) e) := by
  have hk : val_main_call4_v14 (F := Ideal) D (ix3 s o e) = 1#1 := by
    pointwise [val_main_call4_v14]
    exact ref_ok4 h s o
  rw [val_main_v37_apply, hk]
  show val_main_call4_v13 (F := Ideal) E D (ix3 s o e) = _
  unfold val_main_call4_v13
  exact gather_rows _ E _ s o e (tok (s.val / 8 + o.val)) (by norm_num) (ref_idx4 h s o)

/-- The looked-up width embedding of a span. -/
theorem ref_look6 (h : Spans D) (s : Fin 65536) (e : Fin 20) : val_main_v48 (F := Ideal) D We (ix2 s e)
    = We (ix2 ⟨min (s.val % 8) (8191 - s.val / 8), by omega⟩ e) := by
  have hk : val_main_call6_v14 (F := Ideal) D (ix2 s e) = 1#1 := by
    pointwise [val_main_call6_v14]
    exact ref_ok6 h s
  rw [val_main_v48_apply, hk]
  show val_main_call6_v13 (F := Ideal) D We (ix2 s e) = _
  unfold val_main_call6_v13
  simp only [ix2_eq_valueIdx]
  refine Routing.gather_row _ rfl rfl rfl rfl rfl We _ s e ⟨min (s.val % 8) (8191 - s.val / 8), by omega⟩ ?_ (by norm_num)
  rw [← ix2_eq_valueIdx]
  exact ref_idx6 h s

/-- The looked-up state of a span's first token. -/
theorem ref_look7 (h : Spans D) (s : Fin 65536) (e : Fin 512) : val_main_v49 (F := Ideal) S D (ix2 s e)
    = S (ix2 (tok (s.val / 8)) e) := by
  have hk : val_main_call7_v14 (F := Ideal) D (ix2 s e) = 1#1 := by
    pointwise [val_main_call7_v14]
    exact ref_ok7 h s
  rw [val_main_v49_apply, hk]
  show val_main_call7_v13 (F := Ideal) S D (ix2 s e) = _
  unfold val_main_call7_v13
  simp only [ix2_eq_valueIdx]
  refine Routing.gather_row _ rfl rfl rfl rfl rfl S _ s e (tok (s.val / 8)) ?_ (by norm_num)
  rw [← ix2_eq_valueIdx]
  refine (ref_idx7 h s).trans (congrArg _ ?_)
  have := s.isLt
  show s.val / 8 = min (s.val / 8) 8191
  omega

/-- The looked-up state of a span's last token. -/
theorem ref_look8 (h : Spans D) (s : Fin 65536) (e : Fin 512) : val_main_v50 (F := Ideal) S D (ix2 s e)
    = S (ix2 (tok (s.val / 8 + s.val % 8)) e) := by
  have hk : val_main_call8_v14 (F := Ideal) D (ix2 s e) = 1#1 := by
    pointwise [val_main_call8_v14]
    exact ref_ok8 h s
  rw [val_main_v50_apply, hk]
  show val_main_call8_v13 (F := Ideal) S D (ix2 s e) = _
  unfold val_main_call8_v13
  simp only [ix2_eq_valueIdx]
  refine Routing.gather_row _ rfl rfl rfl rfl rfl S _ s e (tok (s.val / 8 + s.val % 8)) ?_ (by norm_num)
  rw [← ix2_eq_valueIdx]
  exact ref_idx8 h s

/-- The masked logit of offset `o` of a span. -/
theorem ref_logit (h : Spans D) (s : Fin 65536) (o : Fin 8) : val_main_v25 (F := Ideal) S D W₁ b₁ W₂ b₂ (ix2 s o)
    = logit S W₁ b₁ W₂ b₂ (s.val / 8) (s.val % 8) o := by
  unfold logit
  pointwise [val_main_v25, val_main_call3_v0, val_main_call3_v1, val_main_cst]
  rw [ref_look2 S W₁ b₁ W₂ b₂ h, ref_inside h, WordCmp.select_ofBool]
  simp only [decide_eq_true_eq]
  rfl

/-- The maximum of a list of extended reals is at least the value it starts from. -/
theorem max_fold (b : EReal) (f : Fin 8 → EReal) : max b (Finset.fold max b f Finset.univ) = Finset.fold max b f Finset.univ :=
  max_eq_right (Finset.le_fold_max b |>.mpr (Or.inl le_rfl))

/-- The softmax weight of offset `o` of a span. -/
theorem ref_weight (h : Spans D) (s : Fin 65536) (o : Fin 8) : val_main_v36 (F := Ideal) S D W₁ b₁ W₂ b₂ (ix2 s o)
    = weight (logit S W₁ b₁ W₂ b₂ (s.val / 8) (s.val % 8)) o := by
  unfold weight expo
  pointwise [val_main_v36, val_main_v35, val_main_v34, val_main_v33, val_main_v32, val_main_v31, val_main_v30, val_main_v29,
    val_main_v28, val_main_v27, val_main_v26, val_main_cst_1, val_main_cst_2, val_main_cst_3]
  simp only [ref_logit S W₁ b₁ W₂ b₂ h, max_fold]

/-- The attention-weighted embedding of a span. -/
theorem ref_mix (h : Spans D) (s : Fin 65536) (e : Fin 300) : val_main_v41 (F := Ideal) S E D W₁ b₁ W₂ b₂ (ix2 s e)
    = ∑ o : Fin 8, E (ix2 (tok (s.val / 8 + o.val)) e) * weight (logit S W₁ b₁ W₂ b₂ (s.val / 8) (s.val % 8)) o := by
  pointwise [val_main_v41, val_main_v40, val_main_v39, val_main_v38, val_main_cst_4]
  simp only [ref_weight S W₁ b₁ W₂ b₂ h, ref_look4 E h]

/-- The features of a span. -/
theorem ref_feature (h : Spans D) (s : Fin 65536) (c : Fin 1344) : val_main_v52 (F := Ideal) S E D W₁ b₁ W₂ b₂ We (ix2 s c)
    = feature S E W₁ b₁ W₂ b₂ We (s.val / 8) ⟨s.val % 8, by omega⟩ c := by
  unfold feature
  pointwise [val_main_v52, val_main_v51]
  by_cases h₀ : c.val < 512
  · rw [dif_pos (show c.val < 1024 by omega), dif_pos h₀, dif_pos h₀, ref_look7 S h]
  · by_cases h₁ : c.val < 1024
    · rw [dif_pos h₁, dif_neg h₀, dif_neg h₀, dif_pos h₁, ref_look8 S h]
    · by_cases h₂ : c.val < 1324
      · rw [dif_neg h₁, dif_pos (show c.val - 1024 < 300 by omega), dif_neg h₀, dif_neg h₁, dif_pos h₂, ref_mix S E W₁ b₁ W₂ b₂ h]
      · rw [dif_neg h₁, dif_neg (show ¬ c.val - 1024 < 300 by omega), dif_neg h₀, dif_neg h₁, dif_neg h₂, ref_look6 We h]
        have e : c.val - 1024 - 300 = c.val - 1324 := by omega
        simp only [e]

/-- The score of a span from its features. -/
theorem ref_score (A₁ : (⟨2, ![1344, 50]⟩ : Shape).Idx → EReal) (a₁ : (⟨1, ![50]⟩ : Shape).Idx → EReal)
    (A₂ : (⟨2, ![50, 1]⟩ : Shape).Idx → EReal) (a₂ : (⟨1, ![1]⟩ : Shape).Idx → EReal) (s : Fin 65536) :
    val_main_v61 (F := Ideal) S E D W₁ b₁ W₂ b₂ We A₁ a₁ A₂ a₂ (ix2 s 0)
      = mlp A₁ a₁ A₂ a₂ (fun d => val_main_v52 (F := Ideal) S E D W₁ b₁ W₂ b₂ We (ix2 s d)) := by
  unfold mlp
  pointwise [val_main_v61, val_main_v60, val_main_v59, val_main_v58, val_main_v57, val_main_v56, val_main_v55, val_main_v54,
    val_main_v53, val_main_call9_v0, val_main_call9_cst]

end Cert.Mention

end
-- ==== Proof.Pre.lean ====
/- The precondition, read as a statement about the spans table. -/
module

public import proofs.«01_k».proof.Proof.Gen.Pre_spans
public import proofs.«01_k».proof.Proof.Words
public import proofs.«01_k».proof.Proof.Spec

@[expose] public section

set_option maxRecDepth 16384

noncomputable section

namespace Cert.Mention

open Idealize.ShloMosaic

/-- Two words compare equal only if they are equal. -/
theorem eq_of_word {a b : BitVec 32} (h : IntOp.cmpi .eq a b = 1#1) : a = b := by
  by_contra hne
  revert h
  have hb : (a == b) = false := beq_eq_false_iff_ne.mpr hne
  simp [IntOp.cmpi, hb]

/-- Both bits of a conjunction that is set are set. -/
theorem both_bits : ∀ p q : BitVec 1, IntOp.andi p q = 1#1 → p = 1#1 ∧ q = 1#1 := by decide

/-- Where the precondition holds, the table lists the spans by start token and width index. -/
theorem spans_of_pre (x0 : FVec Ideal Pre_spans.S8192x512 .f32) (x1 : FVec Ideal Pre_spans.S8192x300 .f32) (D : IVec Pre_spans.S65536x3 32)
    (x3 : IVec Pre_spans.S_ 32) (x4 : FVec Ideal Pre_spans.S512x50 .f32) (x5 : FVec Ideal Pre_spans.S50 .f32)
    (x6 : FVec Ideal Pre_spans.S50x1 .f32) (x7 : FVec Ideal Pre_spans.S1 .f32) (x8 : FVec Ideal Pre_spans.S8x20 .f32)
    (x9 : FVec Ideal Pre_spans.S1344x50 .f32) (x10 : FVec Ideal Pre_spans.S50 .f32) (x11 : FVec Ideal Pre_spans.S50x1 .f32)
    (x12 : FVec Ideal Pre_spans.S1 .f32)
    (h : ∀ j, Pre_spans.fn (F := Ideal) x0 x1 D x3 x4 x5 x6 x7 x8 x9 x10 x11 x12 j = 1#1) : Spans D := by
  have e : ∀ (i : Fin 8192) (w : Fin 8), Pre_spans.fn (F := Ideal) x0 x1 D x3 x4 x5 x6 x7 x8 x9 x10 x11 x12 (ix2 i w)
      = IntOp.andi (IntOp.cmpi .eq (D (ix2 ⟨i.val * 8 + w.val, by omega⟩ 0)) (BitVec.ofNat 32 i.val))
        (IntOp.cmpi .eq (D (ix2 ⟨i.val * 8 + w.val, by omega⟩ 1))
          (IntOp.minsi (IntOp.addi (BitVec.ofNat 32 i.val) (BitVec.ofNat 32 w.val)) 8191#32)) := by
    intro i w
    pointwise [Pre_spans.fn]
  intro s
  have hs := h (ix2 ⟨s.val / 8, by omega⟩ ⟨s.val % 8, by omega⟩)
  rw [e] at hs
  obtain ⟨p, q⟩ := both_bits _ _ hs
  have hp := eq_of_word p
  have hq := eq_of_word q
  have hn : (⟨s.val / 8 * 8 + s.val % 8, by omega⟩ : Fin 65536) = s := Fin.ext (by show s.val / 8 * 8 + s.val % 8 = s.val; omega)
  refine ⟨(congrArg (fun n => D (ix2 n 0)) hn).symm.trans hp, (congrArg (fun n => D (ix2 n 1)) hn).symm.trans (hq.trans ?_)⟩
  exact (congrArg (fun z => IntOp.minsi z 8191#32) (BitVec.ofNat_add (s.val / 8) (s.val % 8)).symm).trans
    (minsi_small (by omega) (by norm_num))

end Cert.Mention

end
-- ==== Proof.Weights.lean ====
/- The kernel's softmax weights and the embeddings weighted by them, for each of the eight width indices. -/
module

public import proofs.«01_k».proof.Proof.Gen.KernelIdeal.Skeleton
public import proofs.«01_k».proof.Proof.Spec
public import proofs.«01_k».proof.Proof.Words

@[expose] public section

set_option maxRecDepth 16384

noncomputable section

namespace Cert.Mention

open Idealize.ShloMosaic Idealize.ShloMosaic.TcCoe Idealize.SL.Sem
open Cert.KernelIdeal Cert.KernelIdeal.Gen

/-- A sum of eight terms in the kernel's order: halves folded onto each other. -/
theorem half8 (f : Fin 8 → EReal) : f 0 + f 4 + (f 2 + f 6) + (f 1 + f 5 + (f 3 + f 7)) = ∑ q, f q := by
  rw [Fin.sum_univ_eight]
  ac_rfl

/-- A weighted sum of eight terms in the kernel's order. -/
theorem half8_mul (w x : Fin 8 → EReal) : w 0 * x 0 + w 4 * x 4 + (w 2 * x 2 + w 6 * x 6)
    + (w 1 * x 1 + w 5 * x 5 + (w 3 * x 3 + w 7 * x 7)) = ∑ q, x q * w q := by
  refine (half8 fun q => w q * x q).trans (Finset.sum_congr rfl fun q _ => mul_comm _ _)

/-- The masked logits of a block's row, from the logits `L` of the block's windows. -/
def lgK (L : FVec Ideal S256x8 .f32) (b w : ℕ) (r : Fin 256) (o : Fin 8) : EReal :=
  if b + r.val + o.val ≤ min (b + r.val + w) 8191 then L (ix2 r o) else NEG

/-- The kernel's two-part mask selects exactly the offsets inside the span. -/
theorem mask_row (L : FVec Ideal S256x8 .f32) {b w : ℕ} (hw : w < 8) (r : Fin 256) (o : Fin 8) {p : BitVec 32} {q : BitVec 1}
    (hp : p = BitVec.ofNat 32 o.val) (hq : q = BitVec.ofBool (decide (b + r.val + o.val ≤ 8191))) :
    Scalar.select (IntOp.andi (IntOp.cmpi .sle p (BitVec.ofNat 32 w)) q) (L (ix2 r o)) NEG = lgK L b w r o := by
  have := o.isLt
  rw [hp, hq, sle_small (by omega) (by omega), WordCmp.andi_ofBool, WordCmp.select_ofBool, ← Bool.decide_and]
  unfold lgK
  refine if_congr ?_ rfl rfl
  rw [decide_eq_true_iff]
  omega

section
variable (L : FVec Ideal S256x8 .f32) (O : IVec S256x8 32) (V : IVec S256x8 1) (WE : FVec Ideal S264x300 .f32) (b : ℕ)

/-- The softmax weights of width index 0. -/
theorem soft0 (T : IVec S256x8 32) (hO : ∀ r o, O (ix2 r o) = BitVec.ofNat 32 o.val)
    (hV : ∀ r o, k0_pay7 T (ix2 r o) = BitVec.ofBool (decide (b + r.val + o.val ≤ 8191))) (r : Fin 256) (o : Fin 8) :
    k0_pay10 L O T (ix2 r o) = weight (lgK L b 0 r) o := by
  have hm : ∀ x : Fin 8, Scalar.select (IntOp.andi (IntOp.cmpi .sle (O (ix2 r x)) 0#32) (k0_pay7 T (ix2 r x))) (L (ix2 r x)) NEG
      = lgK L b 0 r x := fun x => mask_row L (by norm_num) r x (hO r x) (hV r x)
  pointwise [k0_pay10]
  simp only [hm]
  rw [weight, ← half8]
  rfl

/-- The attention-weighted embeddings of width index 0. -/
theorem mix0 (T : IVec S256x8 32) (hO : ∀ r o, O (ix2 r o) = BitVec.ofNat 32 o.val)
    (hV : ∀ r o, k0_pay7 T (ix2 r o) = BitVec.ofBool (decide (b + r.val + o.val ≤ 8191))) (r : Fin 256) (e : Fin 300) :
    k0_pay21 (F := Ideal) WE (k0_pay10 L O T) (k0_pay11 WE L O T) (k0_pay12 WE L O T) (k0_pay13 WE L O T) (k0_pay14 WE L O T) (k0_pay15 WE L O T) (k0_pay16 WE) (k0_pay17 L O T) (ix3 r 0 e)
      = ∑ o : Fin 8, WE (ix2 ⟨r.val + o.val, by omega⟩ e) * weight (lgK L b 0 r) o := by
  pointwise [k0_pay21, k0_pay11, k0_pay12, k0_pay13, k0_pay14, k0_pay15, k0_pay16, k0_pay17]
  simp only [soft0 L O b T hO hV, Nat.add_comm _ r.val]
  exact half8_mul (weight (lgK L b 0 r)) fun o => WE (ix2 ⟨r.val + o.val, by omega⟩ e)

/-- The softmax weights of width index 1. -/
theorem soft1 (hO : ∀ r o, O (ix2 r o) = BitVec.ofNat 32 o.val)
    (hV : ∀ r o, V (ix2 r o) = BitVec.ofBool (decide (b + r.val + o.val ≤ 8191))) (r : Fin 256) (o : Fin 8) :
    k0_pay23 L O V (ix2 r o) = weight (lgK L b 1 r) o := by
  have hm : ∀ x : Fin 8, Scalar.select (IntOp.andi (IntOp.cmpi .sle (O (ix2 r x)) 1#32) (V (ix2 r x))) (L (ix2 r x)) NEG
      = lgK L b 1 r x := fun x => mask_row L (by norm_num) r x (hO r x) (hV r x)
  pointwise [k0_pay23]
  simp only [hm]
  rw [weight, ← half8]
  rfl

/-- The attention-weighted embeddings of width index 1. -/
theorem mix1 (hO : ∀ r o, O (ix2 r o) = BitVec.ofNat 32 o.val)
    (hV : ∀ r o, V (ix2 r o) = BitVec.ofBool (decide (b + r.val + o.val ≤ 8191))) (r : Fin 256) (e : Fin 300) :
    k0_pay36 (F := Ideal) (k0_pay31 WE (k0_pay23 L O V) (k0_pay24 WE L O V) (k0_pay25 WE L O V) (k0_pay26 WE L O V) (k0_pay27 WE L O V) (k0_pay28 WE L O V) (k0_pay29 WE L O V) (k0_pay30 L O V)) (ix3 r 0 e)
      = ∑ o : Fin 8, WE (ix2 ⟨r.val + o.val, by omega⟩ e) * weight (lgK L b 1 r) o := by
  pointwise [k0_pay36, k0_pay31, k0_pay24, k0_pay25, k0_pay26, k0_pay27, k0_pay28, k0_pay29, k0_pay30]
  simp only [soft1 L O V b hO hV, Nat.add_comm _ r.val]
  exact half8_mul (weight (lgK L b 1 r)) fun o => WE (ix2 ⟨r.val + o.val, by omega⟩ e)

/-- The softmax weights of width index 2. -/
theorem soft2 (hO : ∀ r o, O (ix2 r o) = BitVec.ofNat 32 o.val)
    (hV : ∀ r o, V (ix2 r o) = BitVec.ofBool (decide (b + r.val + o.val ≤ 8191))) (r : Fin 256) (o : Fin 8) :
    k0_pay38 L O V (ix2 r o) = weight (lgK L b 2 r) o := by
  have hm : ∀ x : Fin 8, Scalar.select (IntOp.andi (IntOp.cmpi .sle (O (ix2 r x)) 2#32) (V (ix2 r x))) (L (ix2 r x)) NEG
      = lgK L b 2 r x := fun x => mask_row L (by norm_num) r x (hO r x) (hV r x)
  pointwise [k0_pay38]
  simp only [hm]
  rw [weight, ← half8]
  rfl

/-- The attention-weighted embeddings of width index 2. -/
theorem mix2 (hO : ∀ r o, O (ix2 r o) = BitVec.ofNat 32 o.val)
    (hV : ∀ r o, V (ix2 r o) = BitVec.ofBool (decide (b + r.val + o.val ≤ 8191))) (r : Fin 256) (e : Fin 300) :
    k0_pay50 (F := Ideal) (k0_pay42 WE (k0_pay38 L O V) (k0_pay39 WE L O V) (k0_pay40 WE L O V) (k0_pay41 WE L O V)) (ix3 r 0 e)
      = ∑ o : Fin 8, WE (ix2 ⟨r.val + o.val, by omega⟩ e) * weight (lgK L b 2 r) o := by
  pointwise [k0_pay50, k0_pay42, k0_pay39, k0_pay40, k0_pay41]
  simp only [soft2 L O V b hO hV, Nat.add_comm _ r.val]
  exact half8_mul (weight (lgK L b 2 r)) fun o => WE (ix2 ⟨r.val + o.val, by omega⟩ e)

/-- The softmax numerators of width index 3. -/
theorem soft3 (hO : ∀ r o, O (ix2 r o) = BitVec.ofNat 32 o.val)
    (hV : ∀ r o, V (ix2 r o) = BitVec.ofBool (decide (b + r.val + o.val ≤ 8191))) (r : Fin 256) (o : Fin 8) :
    k0_pay52 L O V (ix2 r o) = expo (lgK L b 3 r) o := by
  have hm : ∀ x : Fin 8, Scalar.select (IntOp.andi (IntOp.cmpi .sle (O (ix2 r x)) 3#32) (V (ix2 r x))) (L (ix2 r x)) NEG
      = lgK L b 3 r x := fun x => mask_row L (by norm_num) r x (hO r x) (hV r x)
  pointwise [k0_pay52]
  simp only [hm]
  rfl

/-- The attention-weighted embeddings of width index 3. -/
theorem mix3 (hO : ∀ r o, O (ix2 r o) = BitVec.ofNat 32 o.val)
    (hV : ∀ r o, V (ix2 r o) = BitVec.ofBool (decide (b + r.val + o.val ≤ 8191))) (r : Fin 256) (e : Fin 300) :
    k0_pay62 (F := Ideal) (k0_pay54 WE (k0_pay52 L O V) (k0_pay53 L O V)) (ix3 r 0 e)
      = ∑ o : Fin 8, WE (ix2 ⟨r.val + o.val, by omega⟩ e) * weight (lgK L b 3 r) o := by
  pointwise [k0_pay62, k0_pay54, k0_pay53]
  simp only [soft3 L O V b hO hV, Nat.add_comm _ r.val]
  refine Eq.trans ?_ (half8_mul (weight (lgK L b 3 r)) fun o => WE (ix2 ⟨r.val + o.val, by omega⟩ e))
  simp only [weight, ← half8]
  rfl

/-- The softmax weights of width index 4. -/
theorem soft4 (hO : ∀ r o, O (ix2 r o) = BitVec.ofNat 32 o.val)
    (hV : ∀ r o, V (ix2 r o) = BitVec.ofBool (decide (b + r.val + o.val ≤ 8191))) (r : Fin 256) (o : Fin 8) :
    k0_pay64 L O V (ix2 r o) = weight (lgK L b 4 r) o := by
  have hm : ∀ x : Fin 8, Scalar.select (IntOp.andi (IntOp.cmpi .sle (O (ix2 r x)) 4#32) (V (ix2 r x))) (L (ix2 r x)) NEG
      = lgK L b 4 r x := fun x => mask_row L (by norm_num) r x (hO r x) (hV r x)
  pointwise [k0_pay64]
  simp only [hm]
  rw [weight, ← half8]
  rfl

/-- The attention-weighted embeddings of width index 4. -/
theorem mix4 (hO : ∀ r o, O (ix2 r o) = BitVec.ofNat 32 o.val)
    (hV : ∀ r o, V (ix2 r o) = BitVec.ofBool (decide (b + r.val + o.val ≤ 8191))) (r : Fin 256) (e : Fin 300) :
    k0_pay73 (F := Ideal) (k0_pay66 WE (k0_pay64 L O V) (k0_pay65 L O V)) (ix3 r 0 e)
      = ∑ o : Fin 8, WE (ix2 ⟨r.val + o.val, by omega⟩ e) * weight (lgK L b 4 r) o := by
  pointwise [k0_pay73, k0_pay66, k0_pay65]
  simp only [soft4 L O V b hO hV, Nat.add_comm _ r.val]
  exact half8_mul (weight (lgK L b 4 r)) fun o => WE (ix2 ⟨r.val + o.val, by omega⟩ e)

/-- The softmax weights of width index 5. -/
theorem soft5 (hO : ∀ r o, O (ix2 r o) = BitVec.ofNat 32 o.val)
    (hV : ∀ r o, V (ix2 r o) = BitVec.ofBool (decide (b + r.val + o.val ≤ 8191))) (r : Fin 256) (o : Fin 8) :
    k0_pay75 L O V (ix2 r o) = weight (lgK L b 5 r) o := by
  have hm : ∀ x : Fin 8, Scalar.select (IntOp.andi (IntOp.cmpi .sle (O (ix2 r x)) 5#32) (V (ix2 r x))) (L (ix2 r x)) NEG
      = lgK L b 5 r x := fun x => mask_row L (by norm_num) r x (hO r x) (hV r x)
  pointwise [k0_pay75]
  simp only [hm]
  rw [weight, ← half8]
  rfl

/-- The attention-weighted embeddings of width index 5. -/
theorem mix5 (hO : ∀ r o, O (ix2 r o) = BitVec.ofNat 32 o.val)
    (hV : ∀ r o, V (ix2 r o) = BitVec.ofBool (decide (b + r.val + o.val ≤ 8191))) (r : Fin 256) (e : Fin 300) :
    k0_pay87 (F := Ideal) (k0_pay78 WE (k0_pay75 L O V) (k0_pay76 WE) (k0_pay77 L O V)) (ix3 r 0 e)
      = ∑ o : Fin 8, WE (ix2 ⟨r.val + o.val, by omega⟩ e) * weight (lgK L b 5 r) o := by
  pointwise [k0_pay87, k0_pay78, k0_pay76, k0_pay77]
  simp only [soft5 L O V b hO hV, Nat.add_comm _ r.val]
  exact half8_mul (weight (lgK L b 5 r)) fun o => WE (ix2 ⟨r.val + o.val, by omega⟩ e)

/-- The softmax numerators of width index 6. -/
theorem soft6 (hO : ∀ r o, O (ix2 r o) = BitVec.ofNat 32 o.val)
    (hV : ∀ r o, V (ix2 r o) = BitVec.ofBool (decide (b + r.val + o.val ≤ 8191))) (r : Fin 256) (o : Fin 8) :
    k0_pay89 L O V (ix2 r o) = expo (lgK L b 6 r) o := by
  have hm : ∀ x : Fin 8, Scalar.select (IntOp.andi (IntOp.cmpi .sle (O (ix2 r x)) 6#32) (V (ix2 r x))) (L (ix2 r x)) NEG
      = lgK L b 6 r x := fun x => mask_row L (by norm_num) r x (hO r x) (hV r x)
  pointwise [k0_pay89]
  simp only [hm]
  rfl

/-- The attention-weighted embeddings of width index 6. -/
theorem mix6 (hO : ∀ r o, O (ix2 r o) = BitVec.ofNat 32 o.val)
    (hV : ∀ r o, V (ix2 r o) = BitVec.ofBool (decide (b + r.val + o.val ≤ 8191))) (r : Fin 256) (e : Fin 300) :
    k0_pay106 (F := Ideal) (k0_pay97 WE (k0_pay89 L O V) (k0_pay90 L O V) (k0_pay91 L O V) (k0_pay92 L O V) (k0_pay93 L O V) (k0_pay94 L O V) (k0_pay95 L O V) (k0_pay96 L O V)) (ix3 r 0 e)
      = ∑ o : Fin 8, WE (ix2 ⟨r.val + o.val, by omega⟩ e) * weight (lgK L b 6 r) o := by
  pointwise [k0_pay106, k0_pay97, k0_pay90, k0_pay91, k0_pay92, k0_pay93, k0_pay94, k0_pay95, k0_pay96]
  simp only [soft6 L O V b hO hV, Nat.add_comm _ r.val]
  refine Eq.trans ?_ (half8_mul (weight (lgK L b 6 r)) fun o => WE (ix2 ⟨r.val + o.val, by omega⟩ e))
  simp only [weight, ← half8]
  rfl

/-- The softmax weights of width index 7. -/
theorem soft7 (hO : ∀ r o, O (ix2 r o) = BitVec.ofNat 32 o.val)
    (hV : ∀ r o, V (ix2 r o) = BitVec.ofBool (decide (b + r.val + o.val ≤ 8191))) (r : Fin 256) (o : Fin 8) :
    k0_pay108 L O V (ix2 r o) = weight (lgK L b 7 r) o := by
  have hm : ∀ x : Fin 8, Scalar.select (IntOp.andi (IntOp.cmpi .sle (O (ix2 r x)) 7#32) (V (ix2 r x))) (L (ix2 r x)) NEG
      = lgK L b 7 r x := fun x => mask_row L (by norm_num) r x (hO r x) (hV r x)
  pointwise [k0_pay108]
  simp only [hm]
  rw [weight, ← half8]
  rfl

/-- The attention-weighted embeddings of width index 7. -/
theorem mix7 (hO : ∀ r o, O (ix2 r o) = BitVec.ofNat 32 o.val)
    (hV : ∀ r o, V (ix2 r o) = BitVec.ofBool (decide (b + r.val + o.val ≤ 8191))) (r : Fin 256) (e : Fin 300) :
    k0_pay1 (F := Ideal) (k0_pay116 WE (k0_pay108 L O V) (k0_pay109 WE L O V) (k0_pay110 WE L O V) (k0_pay111 WE L O V) (k0_pay112 WE L O V) (k0_pay113 WE L O V) (k0_pay114 L O V) (k0_pay115 WE)) (ix3 r 0 e)
      = ∑ o : Fin 8, WE (ix2 ⟨r.val + o.val, by omega⟩ e) * weight (lgK L b 7 r) o := by
  pointwise [k0_pay1, k0_pay116, k0_pay109, k0_pay110, k0_pay111, k0_pay112, k0_pay113, k0_pay114, k0_pay115]
  simp only [soft7 L O V b hO hV, Nat.add_comm _ r.val]
  exact half8_mul (weight (lgK L b 7 r)) fun o => WE (ix2 ⟨r.val + o.val, by omega⟩ e)

end

end Cert.Mention

end
-- ==== Proof.Widths.lean ====
/- The kernel's width embeddings, for each of the eight width indices. -/
module

public import proofs.«01_k».proof.Proof.Gen.KernelIdeal.Skeleton
public import proofs.«01_k».proof.Proof.Spec
public import proofs.«01_k».proof.Proof.Words

@[expose] public section

set_option maxRecDepth 16384

noncomputable section

namespace Cert.Mention

open Idealize.ShloMosaic Idealize.ShloMosaic.TcCoe Idealize.SL.Sem
open Cert.KernelIdeal Cert.KernelIdeal.Gen

/-- The bit that says whether the clipped width of row `r` is `k`. -/
theorem width_bit {b w k : ℕ} (hw : w < 8) (hk : k < 8) (hb : b ≤ 7936) (r : Fin 256) {p : BitVec 32} (hp : p = BitVec.ofNat 32 (b + r.val)) :
    IntOp.cmpi .eq (IntOp.minsi (BitVec.ofNat 32 w) (IntOp.subi (BitVec.ofNat 32 8191) p)) (BitVec.ofNat 32 k)
      = BitVec.ofBool (decide (min w (8191 - (b + r.val)) = k)) := by
  have := r.isLt
  rw [hp, subi_small (by norm_num) (by omega), minsi_small (by omega) (by omega), eq_small (by omega) (by omega)]

section
variable (C : IVec S256x1 32) (b : ℕ) (Q : Fin 8 → Fin 20 → EReal)

/-- The width embeddings of width index 0. -/
theorem width0 (W0 : FVec Ideal S1x20 .f32) (hb : b ≤ 7936) (hC : ∀ r, C (ix2 r 0) = BitVec.ofNat 32 (b + r.val))
    (h0 : ∀ e, W0 (ix2 0 e) = Q 0 e) (r : Fin 256) (e : Fin 20) :
    k0_pay22 (F := Ideal) (k0_pay18 C W0) (ix3 r 0 e)
      = Q ⟨min 0 (8191 - (b + r.val)), by omega⟩ e := by
  have hm : ∀ k : ℕ, k < 8 → IntOp.cmpi .eq (IntOp.minsi 0#32 (IntOp.subi 8191#32 (C (ix2 r 0)))) (BitVec.ofNat 32 k)
      = BitVec.ofBool (decide (min 0 (8191 - (b + r.val)) = k)) := fun k hk => width_bit (by norm_num) hk hb r (hC r)
  pointwise [k0_pay22, k0_pay18]
  rw [hm 0 (by norm_num)]
  simp only [h0, WordCmp.select_ofBool, decide_eq_true_eq]
  obtain ⟨n, hn⟩ : ∃ n, min 0 (8191 - (b + r.val)) = n := ⟨_, rfl⟩
  have hle : n ≤ 0 := by omega
  simp only [hn]
  generalize_proofs pf
  clear hn hm
  interval_cases n <;> simp

/-- The width embeddings of width index 1. -/
theorem width1 (W0 W1 : FVec Ideal S1x20 .f32) (hb : b ≤ 7936) (hC : ∀ r, C (ix2 r 0) = BitVec.ofNat 32 (b + r.val))
    (h0 : ∀ e, W0 (ix2 0 e) = Q 0 e) (h1 : ∀ e, W1 (ix2 0 e) = Q 1 e) (r : Fin 256) (e : Fin 20) :
    k0_pay37 (F := Ideal) (k0_pay33 C W0 W1) (ix3 r 0 e)
      = Q ⟨min 1 (8191 - (b + r.val)), by omega⟩ e := by
  have hm : ∀ k : ℕ, k < 8 → IntOp.cmpi .eq (IntOp.minsi 1#32 (IntOp.subi 8191#32 (C (ix2 r 0)))) (BitVec.ofNat 32 k)
      = BitVec.ofBool (decide (min 1 (8191 - (b + r.val)) = k)) := fun k hk => width_bit (by norm_num) hk hb r (hC r)
  pointwise [k0_pay37, k0_pay33]
  rw [hm 0 (by norm_num), hm 1 (by norm_num)]
  simp only [h0, h1, WordCmp.select_ofBool, decide_eq_true_eq]
  obtain ⟨n, hn⟩ : ∃ n, min 1 (8191 - (b + r.val)) = n := ⟨_, rfl⟩
  have hle : n ≤ 1 := by omega
  simp only [hn]
  generalize_proofs pf
  clear hn hm
  interval_cases n <;> simp

/-- The width embeddings of width index 2. -/
theorem width2 (W0 W1 W2 : FVec Ideal S1x20 .f32) (hb : b ≤ 7936) (hC : ∀ r, C (ix2 r 0) = BitVec.ofNat 32 (b + r.val))
    (h0 : ∀ e, W0 (ix2 0 e) = Q 0 e) (h1 : ∀ e, W1 (ix2 0 e) = Q 1 e) (h2 : ∀ e, W2 (ix2 0 e) = Q 2 e) (r : Fin 256) (e : Fin 20) :
    k0_pay51 (F := Ideal) (k0_pay44 C) (k0_pay45 C W0) (FloatOps.ofBits FTy.f32 0#32) (k0_pay46 C) (k0_pay47 W1) W2 (ix3 r 0 e)
      = Q ⟨min 2 (8191 - (b + r.val)), by omega⟩ e := by
  have hm : ∀ k : ℕ, k < 8 → IntOp.cmpi .eq (IntOp.minsi 2#32 (IntOp.subi 8191#32 (C (ix2 r 0)))) (BitVec.ofNat 32 k)
      = BitVec.ofBool (decide (min 2 (8191 - (b + r.val)) = k)) := fun k hk => width_bit (by norm_num) hk hb r (hC r)
  pointwise [k0_pay51, k0_pay44, k0_pay45, k0_pay46, k0_pay47]
  rw [hm 0 (by norm_num), hm 1 (by norm_num), hm 2 (by norm_num)]
  simp only [h0, h1, h2, WordCmp.select_ofBool, decide_eq_true_eq]
  obtain ⟨n, hn⟩ : ∃ n, min 2 (8191 - (b + r.val)) = n := ⟨_, rfl⟩
  have hle : n ≤ 2 := by omega
  simp only [hn]
  generalize_proofs pf
  clear hn hm
  interval_cases n <;> simp

/-- The width embeddings of width index 3. -/
theorem width3 (W0 W1 W2 W3 : FVec Ideal S1x20 .f32) (hb : b ≤ 7936) (hC : ∀ r, C (ix2 r 0) = BitVec.ofNat 32 (b + r.val))
    (h0 : ∀ e, W0 (ix2 0 e) = Q 0 e) (h1 : ∀ e, W1 (ix2 0 e) = Q 1 e) (h2 : ∀ e, W2 (ix2 0 e) = Q 2 e) (h3 : ∀ e, W3 (ix2 0 e) = Q 3 e) (r : Fin 256) (e : Fin 20) :
    k0_pay63 (F := Ideal) (k0_pay58 (k0_pay56 C) (3#32) W0 W1 W2) (k0_pay59 (k0_pay56 C) (3#32) W3) (ix3 r 0 e)
      = Q ⟨min 3 (8191 - (b + r.val)), by omega⟩ e := by
  have hm : ∀ k : ℕ, k < 8 → IntOp.cmpi .eq (IntOp.minsi 3#32 (IntOp.subi 8191#32 (C (ix2 r 0)))) (BitVec.ofNat 32 k)
      = BitVec.ofBool (decide (min 3 (8191 - (b + r.val)) = k)) := fun k hk => width_bit (by norm_num) hk hb r (hC r)
  pointwise [k0_pay63, k0_pay58, k0_pay56, k0_pay59, k0_pay57]
  rw [hm 0 (by norm_num), hm 1 (by norm_num), hm 2 (by norm_num), hm 3 (by norm_num)]
  simp only [h0, h1, h2, h3, WordCmp.select_ofBool, decide_eq_true_eq]
  obtain ⟨n, hn⟩ : ∃ n, min 3 (8191 - (b + r.val)) = n := ⟨_, rfl⟩
  have hle : n ≤ 3 := by omega
  simp only [hn]
  generalize_proofs pf
  clear hn hm
  interval_cases n <;> simp

/-- The width embeddings of width index 4. -/
theorem width4 (W0 W1 W2 W3 W4 : FVec Ideal S1x20 .f32) (hb : b ≤ 7936) (hC : ∀ r, C (ix2 r 0) = BitVec.ofNat 32 (b + r.val))
    (h0 : ∀ e, W0 (ix2 0 e) = Q 0 e) (h1 : ∀ e, W1 (ix2 0 e) = Q 1 e) (h2 : ∀ e, W2 (ix2 0 e) = Q 2 e) (h3 : ∀ e, W3 (ix2 0 e) = Q 3 e) (h4 : ∀ e, W4 (ix2 0 e) = Q 4 e) (r : Fin 256) (e : Fin 20) :
    k0_pay74 (F := Ideal) (k0_pay70 (k0_pay68 C) (k0_pay69 C W0) (1#32) W1 W2 W3 W4) (ix3 r 0 e)
      = Q ⟨min 4 (8191 - (b + r.val)), by omega⟩ e := by
  have hm : ∀ k : ℕ, k < 8 → IntOp.cmpi .eq (IntOp.minsi 4#32 (IntOp.subi 8191#32 (C (ix2 r 0)))) (BitVec.ofNat 32 k)
      = BitVec.ofBool (decide (min 4 (8191 - (b + r.val)) = k)) := fun k hk => width_bit (by norm_num) hk hb r (hC r)
  pointwise [k0_pay74, k0_pay70, k0_pay68, k0_pay69]
  rw [hm 0 (by norm_num), hm 1 (by norm_num), hm 2 (by norm_num), hm 3 (by norm_num), hm 4 (by norm_num)]
  simp only [h0, h1, h2, h3, h4, WordCmp.select_ofBool, decide_eq_true_eq]
  obtain ⟨n, hn⟩ : ∃ n, min 4 (8191 - (b + r.val)) = n := ⟨_, rfl⟩
  have hle : n ≤ 4 := by omega
  simp only [hn]
  generalize_proofs pf
  clear hn hm
  interval_cases n <;> simp

/-- The width embeddings of width index 5. -/
theorem width5 (W0 W1 W2 W3 W4 W5 : FVec Ideal S1x20 .f32) (hb : b ≤ 7936) (hC : ∀ r, C (ix2 r 0) = BitVec.ofNat 32 (b + r.val))
    (h0 : ∀ e, W0 (ix2 0 e) = Q 0 e) (h1 : ∀ e, W1 (ix2 0 e) = Q 1 e) (h2 : ∀ e, W2 (ix2 0 e) = Q 2 e) (h3 : ∀ e, W3 (ix2 0 e) = Q 3 e) (h4 : ∀ e, W4 (ix2 0 e) = Q 4 e) (h5 : ∀ e, W5 (ix2 0 e) = Q 5 e) (r : Fin 256) (e : Fin 20) :
    k0_pay88 (F := Ideal) (k0_pay83 (k0_pay80 C) (k0_pay81 C W0) (k0_pay82 C) W1 W2 W3 W4) (k0_pay84 (k0_pay80 C)) W5 (ix3 r 0 e)
      = Q ⟨min 5 (8191 - (b + r.val)), by omega⟩ e := by
  have hm : ∀ k : ℕ, k < 8 → IntOp.cmpi .eq (IntOp.minsi 5#32 (IntOp.subi 8191#32 (C (ix2 r 0)))) (BitVec.ofNat 32 k)
      = BitVec.ofBool (decide (min 5 (8191 - (b + r.val)) = k)) := fun k hk => width_bit (by norm_num) hk hb r (hC r)
  pointwise [k0_pay88, k0_pay83, k0_pay80, k0_pay81, k0_pay82, k0_pay84]
  rw [hm 0 (by norm_num), hm 1 (by norm_num), hm 2 (by norm_num), hm 3 (by norm_num), hm 4 (by norm_num), hm 5 (by norm_num)]
  simp only [h0, h1, h2, h3, h4, h5, WordCmp.select_ofBool, decide_eq_true_eq]
  obtain ⟨n, hn⟩ : ∃ n, min 5 (8191 - (b + r.val)) = n := ⟨_, rfl⟩
  have hle : n ≤ 5 := by omega
  simp only [hn]
  generalize_proofs pf
  clear hn hm
  interval_cases n <;> simp

/-- The width embeddings of width index 6. -/
theorem width6 (W0 W1 W2 W3 W4 W5 W6 : FVec Ideal S1x20 .f32) (hb : b ≤ 7936) (hC : ∀ r, C (ix2 r 0) = BitVec.ofNat 32 (b + r.val))
    (h0 : ∀ e, W0 (ix2 0 e) = Q 0 e) (h1 : ∀ e, W1 (ix2 0 e) = Q 1 e) (h2 : ∀ e, W2 (ix2 0 e) = Q 2 e) (h3 : ∀ e, W3 (ix2 0 e) = Q 3 e) (h4 : ∀ e, W4 (ix2 0 e) = Q 4 e) (h5 : ∀ e, W5 (ix2 0 e) = Q 5 e) (h6 : ∀ e, W6 (ix2 0 e) = Q 6 e) (r : Fin 256) (e : Fin 20) :
    k0_pay107 (F := Ideal) (k0_pay103 (k0_pay99 C) (k0_pay101 (k0_pay99 C) (k0_pay100 C) W0 W1 W2 W3) (k0_pay102 (k0_pay99 C)) W4 W5 W6) (ix3 r 0 e)
      = Q ⟨min 6 (8191 - (b + r.val)), by omega⟩ e := by
  have hm : ∀ k : ℕ, k < 8 → IntOp.cmpi .eq (IntOp.minsi 6#32 (IntOp.subi 8191#32 (C (ix2 r 0)))) (BitVec.ofNat 32 k)
      = BitVec.ofBool (decide (min 6 (8191 - (b + r.val)) = k)) := fun k hk => width_bit (by norm_num) hk hb r (hC r)
  pointwise [k0_pay107, k0_pay103, k0_pay99, k0_pay101, k0_pay100, k0_pay102]
  rw [hm 0 (by norm_num), hm 1 (by norm_num), hm 2 (by norm_num), hm 3 (by norm_num), hm 4 (by norm_num), hm 5 (by norm_num), hm 6 (by norm_num)]
  simp only [h0, h1, h2, h3, h4, h5, h6, WordCmp.select_ofBool, decide_eq_true_eq]
  obtain ⟨n, hn⟩ : ∃ n, min 6 (8191 - (b + r.val)) = n := ⟨_, rfl⟩
  have hle : n ≤ 6 := by omega
  simp only [hn]
  generalize_proofs pf
  clear hn hm
  interval_cases n <;> simp

/-- The width embeddings of width index 7. -/
theorem width7 (W0 W1 W2 W3 W4 W5 W6 W7 : FVec Ideal S1x20 .f32) (hb : b ≤ 7936) (hC : ∀ r, C (ix2 r 0) = BitVec.ofNat 32 (b + r.val))
    (h0 : ∀ e, W0 (ix2 0 e) = Q 0 e) (h1 : ∀ e, W1 (ix2 0 e) = Q 1 e) (h2 : ∀ e, W2 (ix2 0 e) = Q 2 e) (h3 : ∀ e, W3 (ix2 0 e) = Q 3 e) (h4 : ∀ e, W4 (ix2 0 e) = Q 4 e) (h5 : ∀ e, W5 (ix2 0 e) = Q 5 e) (h6 : ∀ e, W6 (ix2 0 e) = Q 6 e) (h7 : ∀ e, W7 (ix2 0 e) = Q 7 e) (r : Fin 256) (e : Fin 20) :
    k0_pay2 (F := Ideal) (k0_pay125 (k0_pay118 C) (k0_pay122 (k0_pay118 C) (k0_pay119 C W0 W1) (k0_pay120 C) (k0_pay121 W2) W3 W4 W5) (k0_pay123 (k0_pay118 C)) (k0_pay124 W6) W7) (ix3 r 0 e)
      = Q ⟨min 7 (8191 - (b + r.val)), by omega⟩ e := by
  have hm : ∀ k : ℕ, k < 8 → IntOp.cmpi .eq (IntOp.minsi 7#32 (IntOp.subi 8191#32 (C (ix2 r 0)))) (BitVec.ofNat 32 k)
      = BitVec.ofBool (decide (min 7 (8191 - (b + r.val)) = k)) := fun k hk => width_bit (by norm_num) hk hb r (hC r)
  pointwise [k0_pay2, k0_pay125, k0_pay118, k0_pay122, k0_pay119, k0_pay120, k0_pay121, k0_pay123, k0_pay124]
  rw [hm 0 (by norm_num), hm 1 (by norm_num), hm 2 (by norm_num), hm 3 (by norm_num), hm 4 (by norm_num), hm 5 (by norm_num), hm 6 (by norm_num), hm 7 (by norm_num)]
  simp only [h0, h1, h2, h3, h4, h5, h6, h7, WordCmp.select_ofBool, decide_eq_true_eq]
  obtain ⟨n, hn⟩ : ∃ n, min 7 (8191 - (b + r.val)) = n := ⟨_, rfl⟩
  have hle : n ≤ 7 := by omega
  simp only [hn]
  generalize_proofs pf
  clear hn hm
  interval_cases n <;> simp

end

end Cert.Mention

end
-- ==== Proof.Rows.lean ====
/- The kernel's windows of token rows: states, embeddings and attention logits, and the pieces copied from them. -/
module

public import proofs.«01_k».proof.Proof.Gen.KernelIdeal.Skeleton
public import proofs.«01_k».proof.Proof.Spec
public import proofs.«01_k».proof.Proof.Words

@[expose] public section

set_option maxRecDepth 16384

noncomputable section

namespace Cert.Mention

open Idealize.ShloMosaic Idealize.ShloMosaic.TcCoe Idealize.SL.Sem
open Cert.KernelIdeal Cert.KernelIdeal.Gen

/-- The states of a block's tokens and of the eight that follow it. -/
theorem rows_states (x : Vec Ideal S256x512 .f32) (y : Vec Ideal S8x512 .f32) (X : ℕ → Fin 512 → EReal)
    (hx : ∀ (r : Fin 256) d, x (ix2 r d) = X r.val d) (hy : ∀ (r : Fin 8) d, y (ix2 r d) = X (256 + r.val) d)
    (a : Fin 264) (d : Fin 512) : k0_pay3 x y (ix2 a d) = X a.val d := by
  pointwise [k0_pay3]
  by_cases h : a.val < 256
  · rw [dif_pos h, hx]
  · rw [dif_neg h, hy]
    refine congrArg (fun n => X n d) ?_
    show 256 + (a.val - 256) = a.val
    omega

/-- The embeddings of a block's tokens and of the eight that follow it. -/
theorem rows_embeds (x : Vec Ideal S256x300 .f32) (y : Vec Ideal S8x300 .f32) (X : ℕ → Fin 300 → EReal)
    (hx : ∀ (r : Fin 256) d, x (ix2 r d) = X r.val d) (hy : ∀ (r : Fin 8) d, y (ix2 r d) = X (256 + r.val) d)
    (a : Fin 264) (d : Fin 300) : k0_pay4 x y (ix2 a d) = X a.val d := by
  pointwise [k0_pay4]
  by_cases h : a.val < 256
  · rw [dif_pos h, hx]
  · rw [dif_neg h, hy]
    refine congrArg (fun n => X n d) ?_
    show 256 + (a.val - 256) = a.val
    omega

/-- The attention logits of the windows of a block. -/
theorem rows_logits (x : Vec Ideal S256x512 .f32) (y : Vec Ideal S8x512 .f32) (u : Vec Ideal S512x50 .f32)
    (v : Vec Ideal S1x50 .f32) (w : Vec Ideal S50x1 .f32) (z : Vec Ideal S1x1 .f32) (X : ℕ → Fin 512 → EReal)
    (hX : ∀ (a : Fin 264) d, k0_pay3 x y (ix2 a d) = X a.val d)
    (r : Fin 256) (o : Fin 8) : k0_pay5 x y u v w z (ix2 r o)
      = ∑ h : Fin 50, max (∑ d : Fin 512, X (r.val + o.val) d * u (ix2 d h) + v (ix2 0 h)) 0 * w (ix2 h 0) + z (ix2 0 0) := by
  pointwise [k0_pay5]
  simp only [hX]
  fin_vals o with ho
  all_goals simp only [ho, Nat.reduceSub, Nat.reduceLT, ↓reduceDIte]
  all_goals (try simp only [Nat.add_comm _ r.val])
  all_goals rfl

/-- The end states of width index 0. -/
theorem stop0 (WS : FVec Ideal S264x512 .f32) (r : Fin 256) (e : Fin 512) :
    k0_pay20 (F := Ideal) WS (ix3 r 0 e) = WS (ix2 ⟨r.val + 0, by omega⟩ e) := by
  pointwise [k0_pay20]
  all_goals (refine congrArg WS ?_; simp only [Nat.add_comm r.val])

/-- The end states of width index 1. -/
theorem stop1 (WS : FVec Ideal S264x512 .f32) (r : Fin 256) (e : Fin 512) :
    k0_pay35 (F := Ideal) (k0_pay32 WS) (ix3 r 0 e) = WS (ix2 ⟨r.val + 1, by omega⟩ e) := by
  pointwise [k0_pay35, k0_pay32]
  all_goals (refine congrArg WS ?_; simp only [Nat.add_comm r.val])

/-- The end states of width index 2. -/
theorem stop2 (WS : FVec Ideal S264x512 .f32) (r : Fin 256) (e : Fin 512) :
    k0_pay49 (F := Ideal) (k0_pay43 WS) (ix3 r 0 e) = WS (ix2 ⟨r.val + 2, by omega⟩ e) := by
  pointwise [k0_pay49, k0_pay43]
  all_goals (refine congrArg WS ?_; simp only [Nat.add_comm r.val])

/-- The end states of width index 3. -/
theorem stop3 (WS : FVec Ideal S264x512 .f32) (r : Fin 256) (e : Fin 512) :
    k0_pay61 (F := Ideal) (k0_pay55 WS) (ix3 r 0 e) = WS (ix2 ⟨r.val + 3, by omega⟩ e) := by
  pointwise [k0_pay61, k0_pay55]
  all_goals (refine congrArg WS ?_; simp only [Nat.add_comm r.val])

/-- The end states of width index 4. -/
theorem stop4 (WS : FVec Ideal S264x512 .f32) (r : Fin 256) (e : Fin 512) :
    k0_pay72 (F := Ideal) (k0_pay67 WS) (ix3 r 0 e) = WS (ix2 ⟨r.val + 4, by omega⟩ e) := by
  pointwise [k0_pay72, k0_pay67]
  all_goals (refine congrArg WS ?_; simp only [Nat.add_comm r.val])

/-- The end states of width index 5. -/
theorem stop5 (WS : FVec Ideal S264x512 .f32) (r : Fin 256) (e : Fin 512) :
    k0_pay86 (F := Ideal) (k0_pay79 WS) (ix3 r 0 e) = WS (ix2 ⟨r.val + 5, by omega⟩ e) := by
  pointwise [k0_pay86, k0_pay79]
  all_goals (refine congrArg WS ?_; simp only [Nat.add_comm r.val])

/-- The end states of width index 6. -/
theorem stop6 (WS : FVec Ideal S264x512 .f32) (r : Fin 256) (e : Fin 512) :
    k0_pay105 (F := Ideal) (k0_pay98 WS) (ix3 r 0 e) = WS (ix2 ⟨r.val + 6, by omega⟩ e) := by
  pointwise [k0_pay105, k0_pay98]
  all_goals (refine congrArg WS ?_; simp only [Nat.add_comm r.val])

/-- The end states of width index 7. -/
theorem stop7 (WS : FVec Ideal S264x512 .f32) (r : Fin 256) (e : Fin 512) :
    k0_pay127 (F := Ideal) (k0_pay117 WS) (ix3 r 0 e) = WS (ix2 ⟨r.val + 7, by omega⟩ e) := by
  pointwise [k0_pay127, k0_pay117]
  all_goals (refine congrArg WS ?_; simp only [Nat.add_comm r.val])

/-- The start states of width index 0. -/
theorem start0 (WS : FVec Ideal S264x512 .f32) (r : Fin 256) (e : Fin 512) :
    k0_pay19 (F := Ideal) (k0_pay9 WS) (ix3 r 0 e) = WS (ix2 ⟨r.val, by omega⟩ e) := by
  pointwise [k0_pay19, k0_pay9]

/-- The start states of width index 1. -/
theorem start1 (WS : FVec Ideal S264x512 .f32) (r : Fin 256) (e : Fin 512) :
    k0_pay34 (F := Ideal) (k0_pay9 WS) (ix3 r 0 e) = WS (ix2 ⟨r.val, by omega⟩ e) := by
  pointwise [k0_pay34, k0_pay9]

/-- The start states of width index 2. -/
theorem start2 (WS : FVec Ideal S264x512 .f32) (r : Fin 256) (e : Fin 512) :
    k0_pay48 (F := Ideal) (k0_pay9 WS) (ix3 r 0 e) = WS (ix2 ⟨r.val, by omega⟩ e) := by
  pointwise [k0_pay48, k0_pay9]

/-- The start states of width index 3. -/
theorem start3 (WS : FVec Ideal S264x512 .f32) (r : Fin 256) (e : Fin 512) :
    k0_pay60 (F := Ideal) (k0_pay9 WS) (ix3 r 0 e) = WS (ix2 ⟨r.val, by omega⟩ e) := by
  pointwise [k0_pay60, k0_pay9]

/-- The start states of width index 4. -/
theorem start4 (WS : FVec Ideal S264x512 .f32) (r : Fin 256) (e : Fin 512) :
    k0_pay71 (F := Ideal) (k0_pay9 WS) (ix3 r 0 e) = WS (ix2 ⟨r.val, by omega⟩ e) := by
  pointwise [k0_pay71, k0_pay9]

/-- The start states of width index 5. -/
theorem start5 (WS : FVec Ideal S264x512 .f32) (r : Fin 256) (e : Fin 512) :
    k0_pay85 (F := Ideal) (k0_pay9 WS) (ix3 r 0 e) = WS (ix2 ⟨r.val, by omega⟩ e) := by
  pointwise [k0_pay85, k0_pay9]

/-- The start states of width index 6. -/
theorem start6 (WS : FVec Ideal S264x512 .f32) (r : Fin 256) (e : Fin 512) :
    k0_pay104 (F := Ideal) (k0_pay9 WS) (ix3 r 0 e) = WS (ix2 ⟨r.val, by omega⟩ e) := by
  pointwise [k0_pay104, k0_pay9]

/-- The start states of width index 7. -/
theorem start7 (WS : FVec Ideal S264x512 .f32) (r : Fin 256) (e : Fin 512) :
    k0_pay126 (F := Ideal) (k0_pay9 WS) (ix3 r 0 e) = WS (ix2 ⟨r.val, by omega⟩ e) := by
  pointwise [k0_pay126, k0_pay9]

end Cert.Mention

end
-- ==== Proof.Blocks.lean ====
/- The blocks the kernel works on, read from the argument arrays. -/
module

public import proofs.«01_k».proof.Proof.Gen.KernelIdeal.Frame
public import proofs.«01_k».proof.Proof.Weights
public import proofs.«01_k».proof.Proof.Widths
public import proofs.«01_k».proof.Proof.Rows
public import Idealize.ShloMosaic.Lib.Pipeline.ValueKit
public import Idealize.ShloMosaic.Lib.Claim

@[expose] public section

set_option maxRecDepth 16384

noncomputable section

namespace Cert.Mention

open Idealize.ShloMosaic Idealize.ShloMosaic.TcCoe Idealize.SL.Sem
open Cert.KernelIdeal Cert.KernelIdeal.Gen

variable (m : (ℓ : Loc nD τ sig) → Buf (Elt Ideal) ℓ)

/-- Where each window's block lies at a grid point: the token windows at the point's block or the next, the rest whole. -/
theorem idx : ∀ t : Fin cfg0.N, (grid0.coords t 0).val = t.val ∧ win0_0.index t = ![t.val, 0] ∧ win0_1.index t = ![t.val + 1, 0]
    ∧ win0_2.index t = ![t.val, 0] ∧ win0_3.index t = ![t.val + 1, 0] ∧ win0_4.index t = ![0, 0] ∧ win0_5.index t = ![0, 0]
    ∧ win0_6.index t = ![0, 0] ∧ win0_7.index t = ![0, 0] ∧ win0_8.index t = ![0, 0] ∧ win0_9.index t = ![t.val, 0, 0] :=
  (by decide +kernel : ∀ t : Fin grid0.N, _)

/-- The states array with its last row repeated after its end. -/
theorem padded_states (c : Dev nD) (a : Fin 8448) (d : Fin 512) : (V m c main_v6 : FVec Ideal S8448x512 .f32) (ix2 a d)
    = (m ((c : Thread nD τ).loc main_arg0) : FVec Ideal S8192x512 .f32) (ix2 (tok a.val) d) := by
  show (StableHlo.after hostOps0 (fun b => m (c, b)) (Proc.devRef .tc main_v6) : FVec Ideal S8448x512 .f32) (ix2 a d) = _
  entry_read
  pointwise
  unfold tok
  by_cases h : a.val < 8192
  · rw [dif_pos h]
    refine congrArg (fun n => (m ((c : Thread nD τ).loc main_arg0) : FVec Ideal S8192x512 .f32) (ix2 n d)) (Fin.ext ?_)
    show a.val = min a.val 8191
    omega
  · rw [dif_neg h]
    refine congrArg (fun n => (m ((c : Thread nD τ).loc main_arg0) : FVec Ideal S8192x512 .f32) (ix2 n d)) (Fin.ext ?_)
    show 8191 = min a.val 8191
    omega

/-- The embeddings array with its last row repeated after its end. -/
theorem padded_embeds (c : Dev nD) (a : Fin 8448) (d : Fin 300) : (V m c main_v7 : FVec Ideal S8448x300 .f32) (ix2 a d)
    = (m ((c : Thread nD τ).loc main_arg1) : FVec Ideal S8192x300 .f32) (ix2 (tok a.val) d) := by
  show (StableHlo.after hostOps0 (fun b => m (c, b)) (Proc.devRef .tc main_v7) : FVec Ideal S8448x300 .f32) (ix2 a d) = _
  entry_read
  pointwise
  unfold tok
  by_cases h : a.val < 8192
  · rw [dif_pos h]
    refine congrArg (fun n => (m ((c : Thread nD τ).loc main_arg1) : FVec Ideal S8192x300 .f32) (ix2 n d)) (Fin.ext ?_)
    show a.val = min a.val 8191
    omega
  · rw [dif_neg h]
    refine congrArg (fun n => (m ((c : Thread nD τ).loc main_arg1) : FVec Ideal S8192x300 .f32) (ix2 n d)) (Fin.ext ?_)
    show 8191 = min a.val 8191
    omega

/-- The states of a block's own tokens. -/
theorem block0 (c : Dev nD) (t : Fin cfg0.N) (r : Fin 256) (d : Fin 512) :
    (iblk m c 0 t : FVec Ideal S256x512 .f32) (ix2 r d)
      = (m ((c : Thread nD τ).loc main_arg0) : FVec Ideal S8192x512 .f32) (ix2 (tok (256 * t.val + r.val)) d) := by
  have ht : t.val < 32 := lt_of_lt_of_eq t.isLt (by decide)
  rw [← padded_states m c ⟨256 * t.val + r.val, by omega⟩ d]
  blk_ext [iblk, idx t]

/-- The states of the eight tokens after a block. -/
theorem block1 (c : Dev nD) (t : Fin cfg0.N) (r : Fin 8) (d : Fin 512) :
    (View.ld (iblk m c 1 t : FVec Ideal S256x512 .f32) (Rect.unit ![0, 0] ![8, 512] inb_S256x512_S8x512_0_0)) (ix2 r d)
      = (m ((c : Thread nD τ).loc main_arg0) : FVec Ideal S8192x512 .f32) (ix2 (tok (256 * t.val + (256 + r.val))) d) := by
  have ht : t.val < 32 := lt_of_lt_of_eq t.isLt (by decide)
  rw [← padded_states m c ⟨256 * t.val + (256 + r.val), by omega⟩ d]
  rw [View.ld_unit_apply_of _ _ _ _ _ (ix2 ⟨r.val, by omega⟩ d) (fun a => match a with
    | ⟨0, _⟩ => by show r.val = 0 + r.val; omega
    | ⟨1, _⟩ => by show d.val = 0 + d.val; omega)]
  blk_ext [iblk, idx t]

/-- The embeddings of a block's own tokens. -/
theorem block2 (c : Dev nD) (t : Fin cfg0.N) (r : Fin 256) (d : Fin 300) :
    (iblk m c 2 t : FVec Ideal S256x300 .f32) (ix2 r d)
      = (m ((c : Thread nD τ).loc main_arg1) : FVec Ideal S8192x300 .f32) (ix2 (tok (256 * t.val + r.val)) d) := by
  have ht : t.val < 32 := lt_of_lt_of_eq t.isLt (by decide)
  rw [← padded_embeds m c ⟨256 * t.val + r.val, by omega⟩ d]
  blk_ext [iblk, idx t]

/-- The embeddings of the eight tokens after a block. -/
theorem block3 (c : Dev nD) (t : Fin cfg0.N) (r : Fin 8) (d : Fin 300) :
    (View.ld (iblk m c 3 t : FVec Ideal S256x300 .f32) (Rect.unit ![0, 0] ![8, 300] inb_S256x300_S8x300_0_0)) (ix2 r d)
      = (m ((c : Thread nD τ).loc main_arg1) : FVec Ideal S8192x300 .f32) (ix2 (tok (256 * t.val + (256 + r.val))) d) := by
  have ht : t.val < 32 := lt_of_lt_of_eq t.isLt (by decide)
  rw [← padded_embeds m c ⟨256 * t.val + (256 + r.val), by omega⟩ d]
  rw [View.ld_unit_apply_of _ _ _ _ _ (ix2 ⟨r.val, by omega⟩ d) (fun a => match a with
    | ⟨0, _⟩ => by show r.val = 0 + r.val; omega
    | ⟨1, _⟩ => by show d.val = 0 + d.val; omega)]
  blk_ext [iblk, idx t]

/-- The logit layer's first bias as a row. -/
theorem bias_first (c : Dev nD) (h : Fin 50) : (V m c main_v8 : FVec Ideal S1x50 .f32) (ix2 0 h)
    = (m ((c : Thread nD τ).loc main_arg5) : FVec Ideal S50 .f32) (ix1 h) := by
  show (StableHlo.after hostOps0 (fun b => m (c, b)) (Proc.devRef .tc main_v8) : FVec Ideal S1x50 .f32) (ix2 0 h) = _
  entry_read
  pointwise

/-- The logit layer's second bias as a row. -/
theorem bias_second (c : Dev nD) : (V m c main_v9 : FVec Ideal S1x1 .f32) (ix2 0 0)
    = (m ((c : Thread nD τ).loc main_arg7) : FVec Ideal S1 .f32) (ix1 0) := by
  show (StableHlo.after hostOps0 (fun b => m (c, b)) (Proc.devRef .tc main_v9) : FVec Ideal S1x1 .f32) (ix2 0 0) = _
  entry_read
  pointwise

/-- The logit layer's first bias is staged whole. -/
theorem block5 (c : Dev nD) (t : Fin cfg0.N) (h : Fin 50) :
    (iblk m c 5 t : FVec Ideal S1x50 .f32) (ix2 0 h) = (m ((c : Thread nD τ).loc main_arg5) : FVec Ideal S50 .f32) (ix1 h) := by
  rw [← bias_first m c h]
  blk_ext [iblk, idx t]

/-- The logit layer's second bias is staged whole. -/
theorem block7 (c : Dev nD) (t : Fin cfg0.N) :
    (iblk m c 7 t : FVec Ideal S1x1 .f32) (ix2 0 0) = (m ((c : Thread nD τ).loc main_arg7) : FVec Ideal S1 .f32) (ix1 0) := by
  rw [← bias_second m c]
  blk_ext [iblk, idx t]

/-- The logit layer's first weights are staged whole. -/
theorem block4 (c : Dev nD) (t : Fin cfg0.N) :
    (iblk m c 4 t : FVec Ideal S512x50 .f32) = m ((c : Thread nD τ).loc main_arg4) := by
  blk_ext! [iblk, V, idx t]

/-- The logit layer's second weights are staged whole. -/
theorem block6 (c : Dev nD) (t : Fin cfg0.N) :
    (iblk m c 6 t : FVec Ideal S50x1 .f32) = m ((c : Thread nD τ).loc main_arg6) := by
  blk_ext! [iblk, V, idx t]

/-- The width embeddings are staged whole. -/
theorem block8 (c : Dev nD) (t : Fin cfg0.N) :
    (iblk m c 8 t : FVec Ideal S8x20 .f32) = m ((c : Thread nD τ).loc main_arg8) := by
  blk_ext! [iblk, V, idx t]

/-- Row 0 of the width embeddings. -/
theorem width_row0 (c : Dev nD) (t : Fin cfg0.N) (e : Fin 20) :
    (View.ld (iblk m c 8 t : FVec Ideal S8x20 .f32) (Rect.unit ![0, 0] ![1, 20] inb_S8x20_S1x20_0_0)) (ix2 0 e)
      = (m ((c : Thread nD τ).loc main_arg8) : FVec Ideal S8x20 .f32) (ix2 0 e) := by
  rw [View.ld_unit_apply_of _ _ _ _ _ (ix2 0 e) (fun a => match a with
    | ⟨0, _⟩ => rfl
    | ⟨1, _⟩ => by show e.val = 0 + e.val; omega), block8 m c t]

/-- Row 1 of the width embeddings. -/
theorem width_row1 (c : Dev nD) (t : Fin cfg0.N) (e : Fin 20) :
    (View.ld (iblk m c 8 t : FVec Ideal S8x20 .f32) (Rect.unit ![1, 0] ![1, 20] inb_S8x20_S1x20_1_0)) (ix2 0 e)
      = (m ((c : Thread nD τ).loc main_arg8) : FVec Ideal S8x20 .f32) (ix2 1 e) := by
  rw [View.ld_unit_apply_of _ _ _ _ _ (ix2 1 e) (fun a => match a with
    | ⟨0, _⟩ => rfl
    | ⟨1, _⟩ => by show e.val = 0 + e.val; omega), block8 m c t]

/-- Row 2 of the width embeddings. -/
theorem width_row2 (c : Dev nD) (t : Fin cfg0.N) (e : Fin 20) :
    (View.ld (iblk m c 8 t : FVec Ideal S8x20 .f32) (Rect.unit ![2, 0] ![1, 20] inb_S8x20_S1x20_2_0)) (ix2 0 e)
      = (m ((c : Thread nD τ).loc main_arg8) : FVec Ideal S8x20 .f32) (ix2 2 e) := by
  rw [View.ld_unit_apply_of _ _ _ _ _ (ix2 2 e) (fun a => match a with
    | ⟨0, _⟩ => rfl
    | ⟨1, _⟩ => by show e.val = 0 + e.val; omega), block8 m c t]

/-- Row 3 of the width embeddings. -/
theorem width_row3 (c : Dev nD) (t : Fin cfg0.N) (e : Fin 20) :
    (View.ld (iblk m c 8 t : FVec Ideal S8x20 .f32) (Rect.unit ![3, 0] ![1, 20] inb_S8x20_S1x20_3_0)) (ix2 0 e)
      = (m ((c : Thread nD τ).loc main_arg8) : FVec Ideal S8x20 .f32) (ix2 3 e) := by
  rw [View.ld_unit_apply_of _ _ _ _ _ (ix2 3 e) (fun a => match a with
    | ⟨0, _⟩ => rfl
    | ⟨1, _⟩ => by show e.val = 0 + e.val; omega), block8 m c t]

/-- Row 4 of the width embeddings. -/
theorem width_row4 (c : Dev nD) (t : Fin cfg0.N) (e : Fin 20) :
    (View.ld (iblk m c 8 t : FVec Ideal S8x20 .f32) (Rect.unit ![4, 0] ![1, 20] inb_S8x20_S1x20_4_0)) (ix2 0 e)
      = (m ((c : Thread nD τ).loc main_arg8) : FVec Ideal S8x20 .f32) (ix2 4 e) := by
  rw [View.ld_unit_apply_of _ _ _ _ _ (ix2 4 e) (fun a => match a with
    | ⟨0, _⟩ => rfl
    | ⟨1, _⟩ => by show e.val = 0 + e.val; omega), block8 m c t]

/-- Row 5 of the width embeddings. -/
theorem width_row5 (c : Dev nD) (t : Fin cfg0.N) (e : Fin 20) :
    (View.ld (iblk m c 8 t : FVec Ideal S8x20 .f32) (Rect.unit ![5, 0] ![1, 20] inb_S8x20_S1x20_5_0)) (ix2 0 e)
      = (m ((c : Thread nD τ).loc main_arg8) : FVec Ideal S8x20 .f32) (ix2 5 e) := by
  rw [View.ld_unit_apply_of _ _ _ _ _ (ix2 5 e) (fun a => match a with
    | ⟨0, _⟩ => rfl
    | ⟨1, _⟩ => by show e.val = 0 + e.val; omega), block8 m c t]

/-- Row 6 of the width embeddings. -/
theorem width_row6 (c : Dev nD) (t : Fin cfg0.N) (e : Fin 20) :
    (View.ld (iblk m c 8 t : FVec Ideal S8x20 .f32) (Rect.unit ![6, 0] ![1, 20] inb_S8x20_S1x20_6_0)) (ix2 0 e)
      = (m ((c : Thread nD τ).loc main_arg8) : FVec Ideal S8x20 .f32) (ix2 6 e) := by
  rw [View.ld_unit_apply_of _ _ _ _ _ (ix2 6 e) (fun a => match a with
    | ⟨0, _⟩ => rfl
    | ⟨1, _⟩ => by show e.val = 0 + e.val; omega), block8 m c t]

/-- Row 7 of the width embeddings. -/
theorem width_row7 (c : Dev nD) (t : Fin cfg0.N) (e : Fin 20) :
    (View.ld (iblk m c 8 t : FVec Ideal S8x20 .f32) (Rect.unit ![7, 0] ![1, 20] inb_S8x20_S1x20_7_0)) (ix2 0 e)
      = (m ((c : Thread nD τ).loc main_arg8) : FVec Ideal S8x20 .f32) (ix2 7 e) := by
  rw [View.ld_unit_apply_of _ _ _ _ _ (ix2 7 e) (fun a => match a with
    | ⟨0, _⟩ => rfl
    | ⟨1, _⟩ => by show e.val = 0 + e.val; omega), block8 m c t]

/-- The offset within a window, as a word. -/
theorem offset_word (r : Fin 256) (o : Fin 8) : iota Kind.tc S256x8 32 [1] iota_S256x8_d1_w32 (ix2 r o) = BitVec.ofNat 32 o.val := by
  pointwise

/-- Whether a window's token lies in the document. -/
theorem inside_word (t : Fin cfg0.N) (r : Fin 256) (o : Fin 8) :
    k0_pay7 (k0_pay6 (grid0.coords t)) (ix2 r o) = BitVec.ofBool (decide (256 * t.val + r.val + o.val ≤ 8191)) := by
  have ht : t.val < 32 := lt_of_lt_of_eq t.isLt (by decide)
  have e : IntOp.addi (IntOp.addi (Scalar.muli (BitVec.ofNat 32 (grid0.coords t 0).val) 256#32) (BitVec.ofNat 32 r.val))
      (BitVec.ofNat 32 o.val) = BitVec.ofNat 32 (256 * t.val + r.val + o.val) := by
    rw [(idx t).1, BitVec.ofNat_add, BitVec.ofNat_add, Nat.mul_comm, BitVec.ofNat_mul]
    rfl
  pointwise [k0_pay7, k0_pay6]
  refine Eq.trans (congrArg (fun z => IntOp.cmpi .sle z 8191#32) e) ?_
  exact sle_small (by omega) (by norm_num)

/-- The token a row starts at, as a word. -/
theorem token_word (t : Fin cfg0.N) (r : Fin 256) :
    k0_pay8 (Scalar.muli (BitVec.ofNat 32 (grid0.coords t 0).val) 256#32) (ix2 r 0) = BitVec.ofNat 32 (256 * t.val + r.val) := by
  have e : IntOp.addi (Scalar.muli (BitVec.ofNat 32 (grid0.coords t 0).val) 256#32) (BitVec.ofNat 32 r.val)
      = BitVec.ofNat 32 (256 * t.val + r.val) := by
    rw [(idx t).1, BitVec.ofNat_add, Nat.mul_comm, BitVec.ofNat_mul]
    rfl
  pointwise [k0_pay8]
  exact e

end Cert.Mention

end
-- ==== Proof.Array.lean ====
/- The kernel's output array: the features of every span. -/
module

public import proofs.«01_k».proof.Proof.Blocks

@[expose] public section

set_option maxRecDepth 16384

noncomputable section

namespace Cert.Mention

open Idealize.ShloMosaic Idealize.ShloMosaic.TcCoe Idealize.SL.Sem
open Cert.KernelIdeal Cert.KernelIdeal.Gen

section
variable (S : FVec Ideal S8192x512 .f32) (E : FVec Ideal S8192x300 .f32) (W₁ : FVec Ideal S512x50 .f32) (b₁ : FVec Ideal S50 .f32)
    (W₂ : FVec Ideal S50x1 .f32) (b₂ : FVec Ideal S1 .f32) (We : FVec Ideal S8x20 .f32)

/-- The features as an array over start tokens, width indices and features. -/
def features : FVec Ideal S8192x8x1344 .f32 := fun j => feature S E W₁ b₁ W₂ b₂ We (j 0).val (j 1) (j 2)

variable (y : S8192x8x1344.Idx) (n w : ℕ) (h0 : (y 0).val = n) (h1 : (y 1).val = w)
include h0 h1

/-- The first 512 features are the start token's state. -/
theorem features_start (e : Fin 512) (h2 : (y 2).val = 0 + e.val) : features S E W₁ b₁ W₂ b₂ We y = S (ix2 (tok n) e) := by
  unfold features feature
  have h : (y 2).val < 512 := by omega
  rw [dif_pos h, h0]
  exact congrArg (fun q => S (ix2 (tok n) q)) (Fin.ext (by show (y 2).val = e.val; omega))

/-- The next 512 features are the end token's state. -/
theorem features_stop (e : Fin 512) (h2 : (y 2).val = 512 + e.val) : features S E W₁ b₁ W₂ b₂ We y = S (ix2 (tok (n + w)) e) := by
  unfold features feature
  have ha : ¬ (y 2).val < 512 := by omega
  have hb : (y 2).val < 1024 := by omega
  rw [dif_neg ha, dif_pos hb, h0, h1]
  exact congrArg (fun q => S (ix2 (tok (n + w)) q)) (Fin.ext (by show (y 2).val - 512 = e.val; omega))

/-- The next 300 features are the attention-weighted embeddings. -/
theorem features_mix (e : Fin 300) (h2 : (y 2).val = 1024 + e.val) : features S E W₁ b₁ W₂ b₂ We y
    = ∑ o : Fin 8, E (ix2 (tok (n + o.val)) e) * weight (logit S W₁ b₁ W₂ b₂ n w) o := by
  unfold features feature
  have ha : ¬ (y 2).val < 512 := by omega
  have hb : ¬ (y 2).val < 1024 := by omega
  have hc : (y 2).val < 1324 := by omega
  rw [dif_neg ha, dif_neg hb, dif_pos hc, h0, h1]
  exact congrArg (fun q => ∑ o : Fin 8, E (ix2 (tok (n + o.val)) q) * weight (logit S W₁ b₁ W₂ b₂ n w) o)
    (Fin.ext (by show (y 2).val - 1024 = e.val; omega))

/-- The last 20 features are the width's embedding. -/
theorem features_width (e : Fin 20) (h2 : (y 2).val = 1324 + e.val) (hw : min w (8191 - n) < 8) : features S E W₁ b₁ W₂ b₂ We y
    = We (ix2 ⟨min w (8191 - n), hw⟩ e) := by
  unfold features feature
  have ha : ¬ (y 2).val < 512 := by omega
  have hb : ¬ (y 2).val < 1024 := by omega
  have hc : ¬ (y 2).val < 1324 := by omega
  rw [dif_neg ha, dif_neg hb, dif_neg hc]
  exact congrArg₂ (fun p q => We (ix2 p q)) (Fin.ext (by show min (y 1).val (8191 - (y 0).val) = min w (8191 - n); rw [h0, h1]))
    (Fin.ext (by show (y 2).val - 1324 = e.val; omega))

end

/-- An index into an array with a middle axis of one entry. -/
theorem index_mid {A B : ℕ} (x : (⟨3, ![A, 1, B]⟩ : Shape).Idx) : ∃ (r : Fin A) (e : Fin B), x = ix3 r 0 e :=
  ⟨x 0, x 2, funext fun a => match a with
    | ⟨0, _⟩ => rfl
    | ⟨1, _⟩ => Fin.ext (by have := (x 1).isLt; show (x 1).val = 0; have h : (x 1).val < 1 := this; omega)
    | ⟨2, _⟩ => rfl⟩

section
variable (S : FVec Ideal S8192x512 .f32) (E : FVec Ideal S8192x300 .f32) (W₁ : FVec Ideal S512x50 .f32) (b₁ : FVec Ideal S50 .f32)
    (W₂ : FVec Ideal S50x1 .f32) (b₂ : FVec Ideal S1 .f32) (We : FVec Ideal S8x20 .f32)
variable (b w : ℕ) (z : S8192x8x1344.Idx)

/-- Start states stored at their place are the features there. -/
theorem tile_start {P : S256x1x512.Idx → EReal} {WS : FVec Ideal S264x512 .f32}
    (hP : ∀ (r : Fin 256) (e : Fin 512), P (ix3 r 0 e) = WS (ix2 ⟨r.val, by omega⟩ e))
    (hS : ∀ a d, WS (ix2 a d) = S (ix2 (tok (b + a.val)) d))
    (x : S256x1x512.Idx) (h0 : (z 0).val = b + (x 0).val) (h1 : (z 1).val = w + (x 1).val) (h2 : (z 2).val = 0 + (x 2).val) :
    P x = features S E W₁ b₁ W₂ b₂ We z := by
  obtain ⟨r, e, rfl⟩ := index_mid x
  exact (hP r e).trans ((hS _ e).trans (features_start S E W₁ b₁ W₂ b₂ We z _ w h0 h1 e h2).symm)

/-- End states stored at their place are the features there. -/
theorem tile_stop {P : S256x1x512.Idx → EReal} {WS : FVec Ideal S264x512 .f32} (hw : w < 8)
    (hP : ∀ (r : Fin 256) (e : Fin 512), P (ix3 r 0 e) = WS (ix2 ⟨r.val + w, by omega⟩ e))
    (hS : ∀ a d, WS (ix2 a d) = S (ix2 (tok (b + a.val)) d))
    (x : S256x1x512.Idx) (h0 : (z 0).val = b + (x 0).val) (h1 : (z 1).val = w + (x 1).val) (h2 : (z 2).val = 512 + (x 2).val) :
    P x = features S E W₁ b₁ W₂ b₂ We z := by
  obtain ⟨r, e, rfl⟩ := index_mid x
  refine (hP r e).trans ((hS _ e).trans (Eq.trans ?_ (features_stop S E W₁ b₁ W₂ b₂ We z _ w h0 h1 e h2).symm))
  exact congrArg (fun q => S (ix2 (tok q) e)) (Nat.add_assoc b r.val w).symm

/-- Attention-weighted embeddings stored at their place are the features there. -/
theorem tile_mix {P : S256x1x300.Idx → EReal} {WE : FVec Ideal S264x300 .f32} {L : FVec Ideal S256x8 .f32}
    (hP : ∀ (r : Fin 256) (e : Fin 300), P (ix3 r 0 e) = ∑ o : Fin 8, WE (ix2 ⟨r.val + o.val, by omega⟩ e) * weight (lgK L b w r) o)
    (hE : ∀ a d, WE (ix2 a d) = E (ix2 (tok (b + a.val)) d))
    (hL : ∀ r o, L (ix2 r o) = mlp W₁ b₁ W₂ b₂ fun d => S (ix2 (tok (b + (r.val + o.val))) d))
    (x : S256x1x300.Idx) (h0 : (z 0).val = b + (x 0).val) (h1 : (z 1).val = w + (x 1).val) (h2 : (z 2).val = 1024 + (x 2).val) :
    P x = features S E W₁ b₁ W₂ b₂ We z := by
  obtain ⟨r, e, rfl⟩ := index_mid x
  have hG : lgK L b w r = logit S W₁ b₁ W₂ b₂ (b + r.val) w := by
    funext o
    unfold lgK logit
    rw [hL, Nat.add_assoc b r.val o.val]
  refine (hP r e).trans (Eq.trans ?_ (features_mix S E W₁ b₁ W₂ b₂ We z _ w h0 h1 e h2).symm)
  refine Finset.sum_congr rfl fun o _ => ?_
  rw [hG, hE]
  exact congrArg (fun q => E (ix2 (tok q) e) * weight (logit S W₁ b₁ W₂ b₂ (b + r.val) w) o) (Nat.add_assoc b r.val o.val).symm

/-- Width embeddings stored at their place are the features there. -/
theorem tile_width {P : S256x1x20.Idx → EReal} (hw : w < 8)
    (hP : ∀ (r : Fin 256) (e : Fin 20), P (ix3 r 0 e) = We (ix2 ⟨min w (8191 - (b + r.val)), by omega⟩ e))
    (x : S256x1x20.Idx) (h0 : (z 0).val = b + (x 0).val) (h1 : (z 1).val = w + (x 1).val) (h2 : (z 2).val = 1324 + (x 2).val) :
    P x = features S E W₁ b₁ W₂ b₂ We z := by
  obtain ⟨r, e, rfl⟩ := index_mid x
  exact (hP r e).trans (features_width S E W₁ b₁ W₂ b₂ We z _ w h0 h1 e h2 (by omega)).symm

end

variable (m : (ℓ : Loc nD τ sig) → Buf (Elt Ideal) ℓ)

/-- Where an entry of a grid point's block lies in the output array. -/
theorem place (t : Fin cfg0.N) (y : S256x8x1344.Idx) :
    ((((View.whole main_v10).slice (win0_9.rect t)).emb y) 0).val = 256 * t.val + (y 0).val
    ∧ ((((View.whole main_v10).slice (win0_9.rect t)).emb y) 1).val = (y 1).val
    ∧ ((((View.whole main_v10).slice (win0_9.rect t)).emb y) 2).val = (y 2).val := by
  have hi : win0_9.index t = ![t.val, 0, 0] := (idx t).2.2.2.2.2.2.2.2.2.2
  refine ⟨(win0_9.rect_emb_val t y 0).trans ?_, (win0_9.rect_emb_val t y 1).trans ?_, (win0_9.rect_emb_val t y 2).trans ?_⟩
  · rw [hi]
    show t.val * 256 + (y 0).val = _
    omega
  · rw [hi]
    show 0 * 8 + (y 1).val = _
    omega
  · rw [hi]
    show 0 * 1344 + (y 2).val = _
    omega

set_option maxHeartbeats 4000000 in
/-- The kernel's output array after the last grid point. -/
theorem array (c : Dev nD) : (Gen.dats m 0 c).arrAt 9 32
    = features (m ((c : Thread nD τ).loc main_arg0)) (m ((c : Thread nD τ).loc main_arg1)) (m ((c : Thread nD τ).loc main_arg4))
        (m ((c : Thread nD τ).loc main_arg5)) (m ((c : Thread nD τ).loc main_arg6)) (m ((c : Thread nD τ).loc main_arg7))
        (m ((c : Thread nD τ).loc main_arg8)) := by
  refine (Gen.dats m 0 c).arrAt_eq_of_covers 9 _ (by decide +kernel) fun t hf y => ?_
  have ht : t.val < 32 := lt_of_lt_of_eq t.isLt (by decide)
  have hb : 256 * t.val ≤ 7936 := by omega
  blk_simp
  rw [after0_9]
  unfold outsAt0
  frame_out
  have hS := rows_states (iblk m c 0 t) (View.ld (iblk m c 1 t) (Rect.unit ![0, 0] ![8, 512] inb_S256x512_S8x512_0_0))
    (fun n d => (m ((c : Thread nD τ).loc main_arg0) : FVec Ideal S8192x512 .f32) (ix2 (tok (256 * t.val + n)) d)) (block0 m c t) (block1 m c t)
  have hE := rows_embeds (iblk m c 2 t) (View.ld (iblk m c 3 t) (Rect.unit ![0, 0] ![8, 300] inb_S256x300_S8x300_0_0))
    (fun n d => (m ((c : Thread nD τ).loc main_arg1) : FVec Ideal S8192x300 .f32) (ix2 (tok (256 * t.val + n)) d)) (block2 m c t) (block3 m c t)
  have hL : ∀ (r : Fin 256) (o : Fin 8), k0_pay5 (iblk m c 0 t)
      (View.ld (iblk m c 1 t) (Rect.unit ![0, 0] ![8, 512] inb_S256x512_S8x512_0_0)) (iblk m c 4 t) (iblk m c 5 t) (iblk m c 6 t)
      (iblk m c 7 t) (ix2 r o)
      = mlp (m ((c : Thread nD τ).loc main_arg4)) (m ((c : Thread nD τ).loc main_arg5)) (m ((c : Thread nD τ).loc main_arg6))
        (m ((c : Thread nD τ).loc main_arg7))
        (fun d => (m ((c : Thread nD τ).loc main_arg0) : FVec Ideal S8192x512 .f32) (ix2 (tok (256 * t.val + (r.val + o.val))) d)) := by
    intro r o
    rw [rows_logits (iblk m c 0 t) (View.ld (iblk m c 1 t) (Rect.unit ![0, 0] ![8, 512] inb_S256x512_S8x512_0_0))
      (iblk m c 4 t) (iblk m c 5 t) (iblk m c 6 t) (iblk m c 7 t)
      (fun n d => (m ((c : Thread nD τ).loc main_arg0) : FVec Ideal S8192x512 .f32) (ix2 (tok (256 * t.val + n)) d)) hS r o]
    simp only [block4 m c t, block5 m c t, block6 m c t, block7 m c t]
    rfl
  have hO := offset_word
  have hV := inside_word t
  have hC := token_word t
  have r0 := width_row0 m c t
  have r1 := width_row1 m c t
  have r2 := width_row2 m c t
  have r3 := width_row3 m c t
  have r4 := width_row4 m c t
  have r5 := width_row5 m c t
  have r6 := width_row6 m c t
  have r7 := width_row7 m c t
  generalize k0_pay3 (iblk m c 0 t) _ = WS at hS ⊢
  generalize k0_pay4 (iblk m c 2 t) _ = WE at hE ⊢
  generalize k0_pay5 (iblk m c 0 t) _ _ _ _ _ = L at hL ⊢
  generalize k0_pay6 (grid0.coords t) = T at hV ⊢
  generalize k0_pay8 (Scalar.muli (BitVec.ofNat 32 ↑(grid0.coords t 0)) 256#32) = C at hC ⊢
  generalize iota Kind.tc S256x8 32 [1] iota_S256x8_d1_w32 = O at hO ⊢
  have hT := hV
  generalize k0_pay7 T = V at hV ⊢
  generalize View.ld (iblk m c 8 t) (Rect.unit ![0, 0] ![1, 20] inb_S8x20_S1x20_0_0) = W0 at r0 ⊢
  generalize View.ld (iblk m c 8 t) (Rect.unit ![1, 0] ![1, 20] inb_S8x20_S1x20_1_0) = W1 at r1 ⊢
  generalize View.ld (iblk m c 8 t) (Rect.unit ![2, 0] ![1, 20] inb_S8x20_S1x20_2_0) = W2 at r2 ⊢
  generalize View.ld (iblk m c 8 t) (Rect.unit ![3, 0] ![1, 20] inb_S8x20_S1x20_3_0) = W3 at r3 ⊢
  generalize View.ld (iblk m c 8 t) (Rect.unit ![4, 0] ![1, 20] inb_S8x20_S1x20_4_0) = W4 at r4 ⊢
  generalize View.ld (iblk m c 8 t) (Rect.unit ![5, 0] ![1, 20] inb_S8x20_S1x20_5_0) = W5 at r5 ⊢
  generalize View.ld (iblk m c 8 t) (Rect.unit ![6, 0] ![1, 20] inb_S8x20_S1x20_6_0) = W6 at r6 ⊢
  generalize View.ld (iblk m c 8 t) (Rect.unit ![7, 0] ![1, 20] inb_S8x20_S1x20_7_0) = W7 at r7 ⊢
  generalize m ((c : Thread nD τ).loc main_arg0) = S at hS hL ⊢
  generalize m ((c : Thread nD τ).loc main_arg1) = E at hE ⊢
  generalize m ((c : Thread nD τ).loc main_arg4) = W₁ at hL ⊢
  generalize m ((c : Thread nD τ).loc main_arg5) = b₁ at hL ⊢
  generalize m ((c : Thread nD τ).loc main_arg6) = W₂ at hL ⊢
  generalize m ((c : Thread nD τ).loc main_arg7) = b₂ at hL ⊢
  generalize m ((c : Thread nD τ).loc main_arg8) = We at r0 r1 r2 r3 r4 r5 r6 r7 ⊢
  obtain ⟨e0, e1, e2⟩ := place t y
  generalize ((View.whole main_v10).slice (win0_9.rect t)).emb y = z at e0 e1 e2 ⊢
  canon_tiles x h using View.cover_of_tiledBy _ ![256, 1, 4] (by sl_kernel_rfl) _
  case piece0 =>
    exact tile_width S E W₁ b₁ W₂ b₂ We (256 * t.val) 7 z (by norm_num)
      (width7 C (256 * t.val) (fun k e => We (ix2 k e)) W0 W1 W2 W3 W4 W5 W6 W7 hb hC r0 r1 r2 r3 r4 r5 r6 r7) x (e0.trans (congrArg (256 * t.val + ·) h0))
      (e1.trans h1) (e2.trans h2)
  case piece1 =>
    exact tile_mix S E W₁ b₁ W₂ b₂ We (256 * t.val) 7 z (mix7 L O V WE (256 * t.val) hO hV) hE hL x (e0.trans (congrArg (256 * t.val + ·) h0))
      (e1.trans h1) (e2.trans h2)
  case piece2 =>
    exact tile_stop S E W₁ b₁ W₂ b₂ We (256 * t.val) 7 z (by norm_num) (stop7 WS) hS x (e0.trans (congrArg (256 * t.val + ·) h0))
      (e1.trans h1) (e2.trans h2)
  case piece3 =>
    exact tile_start S E W₁ b₁ W₂ b₂ We (256 * t.val) 7 z (start7 WS) hS x (e0.trans (congrArg (256 * t.val + ·) h0))
      (e1.trans h1) (e2.trans (h2.trans (Nat.zero_add _).symm))
  case piece4 =>
    exact tile_width S E W₁ b₁ W₂ b₂ We (256 * t.val) 6 z (by norm_num)
      (width6 C (256 * t.val) (fun k e => We (ix2 k e)) W0 W1 W2 W3 W4 W5 W6 hb hC r0 r1 r2 r3 r4 r5 r6) x (e0.trans (congrArg (256 * t.val + ·) h0))
      (e1.trans h1) (e2.trans h2)
  case piece5 =>
    exact tile_mix S E W₁ b₁ W₂ b₂ We (256 * t.val) 6 z (mix6 L O V WE (256 * t.val) hO hV) hE hL x (e0.trans (congrArg (256 * t.val + ·) h0))
      (e1.trans h1) (e2.trans h2)
  case piece6 =>
    exact tile_stop S E W₁ b₁ W₂ b₂ We (256 * t.val) 6 z (by norm_num) (stop6 WS) hS x (e0.trans (congrArg (256 * t.val + ·) h0))
      (e1.trans h1) (e2.trans h2)
  case piece7 =>
    exact tile_start S E W₁ b₁ W₂ b₂ We (256 * t.val) 6 z (start6 WS) hS x (e0.trans (congrArg (256 * t.val + ·) h0))
      (e1.trans h1) (e2.trans (h2.trans (Nat.zero_add _).symm))
  case piece8 =>
    exact tile_width S E W₁ b₁ W₂ b₂ We (256 * t.val) 5 z (by norm_num)
      (width5 C (256 * t.val) (fun k e => We (ix2 k e)) W0 W1 W2 W3 W4 W5 hb hC r0 r1 r2 r3 r4 r5) x (e0.trans (congrArg (256 * t.val + ·) h0))
      (e1.trans h1) (e2.trans h2)
  case piece9 =>
    exact tile_mix S E W₁ b₁ W₂ b₂ We (256 * t.val) 5 z (mix5 L O V WE (256 * t.val) hO hV) hE hL x (e0.trans (congrArg (256 * t.val + ·) h0))
      (e1.trans h1) (e2.trans h2)
  case piece10 =>
    exact tile_stop S E W₁ b₁ W₂ b₂ We (256 * t.val) 5 z (by norm_num) (stop5 WS) hS x (e0.trans (congrArg (256 * t.val + ·) h0))
      (e1.trans h1) (e2.trans h2)
  case piece11 =>
    exact tile_start S E W₁ b₁ W₂ b₂ We (256 * t.val) 5 z (start5 WS) hS x (e0.trans (congrArg (256 * t.val + ·) h0))
      (e1.trans h1) (e2.trans (h2.trans (Nat.zero_add _).symm))
  case piece12 =>
    exact tile_width S E W₁ b₁ W₂ b₂ We (256 * t.val) 4 z (by norm_num)
      (width4 C (256 * t.val) (fun k e => We (ix2 k e)) W0 W1 W2 W3 W4 hb hC r0 r1 r2 r3 r4) x (e0.trans (congrArg (256 * t.val + ·) h0))
      (e1.trans h1) (e2.trans h2)
  case piece13 =>
    exact tile_mix S E W₁ b₁ W₂ b₂ We (256 * t.val) 4 z (mix4 L O V WE (256 * t.val) hO hV) hE hL x (e0.trans (congrArg (256 * t.val + ·) h0))
      (e1.trans h1) (e2.trans h2)
  case piece14 =>
    exact tile_stop S E W₁ b₁ W₂ b₂ We (256 * t.val) 4 z (by norm_num) (stop4 WS) hS x (e0.trans (congrArg (256 * t.val + ·) h0))
      (e1.trans h1) (e2.trans h2)
  case piece15 =>
    exact tile_start S E W₁ b₁ W₂ b₂ We (256 * t.val) 4 z (start4 WS) hS x (e0.trans (congrArg (256 * t.val + ·) h0))
      (e1.trans h1) (e2.trans (h2.trans (Nat.zero_add _).symm))
  case piece16 =>
    exact tile_width S E W₁ b₁ W₂ b₂ We (256 * t.val) 3 z (by norm_num)
      (width3 C (256 * t.val) (fun k e => We (ix2 k e)) W0 W1 W2 W3 hb hC r0 r1 r2 r3) x (e0.trans (congrArg (256 * t.val + ·) h0))
      (e1.trans h1) (e2.trans h2)
  case piece17 =>
    exact tile_mix S E W₁ b₁ W₂ b₂ We (256 * t.val) 3 z (mix3 L O V WE (256 * t.val) hO hV) hE hL x (e0.trans (congrArg (256 * t.val + ·) h0))
      (e1.trans h1) (e2.trans h2)
  case piece18 =>
    exact tile_stop S E W₁ b₁ W₂ b₂ We (256 * t.val) 3 z (by norm_num) (stop3 WS) hS x (e0.trans (congrArg (256 * t.val + ·) h0))
      (e1.trans h1) (e2.trans h2)
  case piece19 =>
    exact tile_start S E W₁ b₁ W₂ b₂ We (256 * t.val) 3 z (start3 WS) hS x (e0.trans (congrArg (256 * t.val + ·) h0))
      (e1.trans h1) (e2.trans (h2.trans (Nat.zero_add _).symm))
  case piece20 =>
    exact tile_width S E W₁ b₁ W₂ b₂ We (256 * t.val) 2 z (by norm_num)
      (width2 C (256 * t.val) (fun k e => We (ix2 k e)) W0 W1 W2 hb hC r0 r1 r2) x (e0.trans (congrArg (256 * t.val + ·) h0))
      (e1.trans h1) (e2.trans h2)
  case piece21 =>
    exact tile_mix S E W₁ b₁ W₂ b₂ We (256 * t.val) 2 z (mix2 L O V WE (256 * t.val) hO hV) hE hL x (e0.trans (congrArg (256 * t.val + ·) h0))
      (e1.trans h1) (e2.trans h2)
  case piece22 =>
    exact tile_stop S E W₁ b₁ W₂ b₂ We (256 * t.val) 2 z (by norm_num) (stop2 WS) hS x (e0.trans (congrArg (256 * t.val + ·) h0))
      (e1.trans h1) (e2.trans h2)
  case piece23 =>
    exact tile_start S E W₁ b₁ W₂ b₂ We (256 * t.val) 2 z (start2 WS) hS x (e0.trans (congrArg (256 * t.val + ·) h0))
      (e1.trans h1) (e2.trans (h2.trans (Nat.zero_add _).symm))
  case piece24 =>
    exact tile_width S E W₁ b₁ W₂ b₂ We (256 * t.val) 1 z (by norm_num)
      (width1 C (256 * t.val) (fun k e => We (ix2 k e)) W0 W1 hb hC r0 r1) x (e0.trans (congrArg (256 * t.val + ·) h0))
      (e1.trans h1) (e2.trans h2)
  case piece25 =>
    exact tile_mix S E W₁ b₁ W₂ b₂ We (256 * t.val) 1 z (mix1 L O V WE (256 * t.val) hO hV) hE hL x (e0.trans (congrArg (256 * t.val + ·) h0))
      (e1.trans h1) (e2.trans h2)
  case piece26 =>
    exact tile_stop S E W₁ b₁ W₂ b₂ We (256 * t.val) 1 z (by norm_num) (stop1 WS) hS x (e0.trans (congrArg (256 * t.val + ·) h0))
      (e1.trans h1) (e2.trans h2)
  case piece27 =>
    exact tile_start S E W₁ b₁ W₂ b₂ We (256 * t.val) 1 z (start1 WS) hS x (e0.trans (congrArg (256 * t.val + ·) h0))
      (e1.trans h1) (e2.trans (h2.trans (Nat.zero_add _).symm))
  case piece28 =>
    exact tile_width S E W₁ b₁ W₂ b₂ We (256 * t.val) 0 z (by norm_num)
      (width0 C (256 * t.val) (fun k e => We (ix2 k e)) W0 hb hC r0) x (e0.trans (congrArg (256 * t.val + ·) h0))
      (e1.trans (h1.trans (Nat.zero_add _).symm)) (e2.trans h2)
  case piece29 =>
    exact tile_mix S E W₁ b₁ W₂ b₂ We (256 * t.val) 0 z (mix0 L O WE (256 * t.val) T hO hT) hE hL x (e0.trans (congrArg (256 * t.val + ·) h0))
      (e1.trans (h1.trans (Nat.zero_add _).symm)) (e2.trans h2)
  case piece30 =>
    exact tile_stop S E W₁ b₁ W₂ b₂ We (256 * t.val) 0 z (by norm_num) (stop0 WS) hS x (e0.trans (congrArg (256 * t.val + ·) h0))
      (e1.trans (h1.trans (Nat.zero_add _).symm)) (e2.trans h2)
  case piece31 =>
    exact tile_start S E W₁ b₁ W₂ b₂ We (256 * t.val) 0 z (start0 WS) hS x (e0.trans (congrArg (256 * t.val + ·) h0))
      (e1.trans (h1.trans (Nat.zero_add _).symm)) (e2.trans (h2.trans (Nat.zero_add _).symm))

end Cert.Mention

end
-- ==== Proof.Tail.lean ====
/- What the host computes after the kernel: the feature rows, the score of every span, and the best spans. -/
module

public import proofs.«01_k».proof.Proof.Gen.KernelIdeal.Frame
public import proofs.«01_k».proof.Proof.Spec
public import Idealize.ShloMosaic.Lib.Pipeline.ValueKit
public import Idealize.ShloMosaic.Lib.Claim

@[expose] public section

set_option maxRecDepth 16384

noncomputable section

namespace Cert.Mention

open Idealize.ShloMosaic Idealize.ShloMosaic.TcCoe Idealize.SL.Sem
open Cert.KernelIdeal Cert.KernelIdeal.Gen

/-- The scoring layers on 8192 feature rows at once. -/
def blockScore (x : FVec Ideal S8192x1344 .f32) (A₁ : FVec Ideal S1344x50 .f32) (a₁ : FVec Ideal S50 .f32) (A₂ : FVec Ideal S50x1 .f32)
    (a₂ : FVec Ideal S1 .f32) : FVec Ideal S8192x1 .f32 :=
  addf (Host.dotGeneral dot_S8192x50_S50x1_S8192x1_1_0_0_1_n_n none
      (maximumf (addf (Host.dotGeneral dot_S8192x1344_S1344x50_S8192x50_1_0_0_1_n_n none x A₁)
          (broadcastInDim S8192x50 ![0, 1] bcast_S1x50_S8192x50_0_1 (broadcastInDim S1x50 ![1] bcast_S50_S1x50_1 a₁)))
        (broadcastInDim S8192x50 ![] bcast_S_S8192x50 (constant S_ .f32 0x00000000#32))) A₂)
    (broadcastInDim S8192x1 ![0, 1] bcast_S1x1_S8192x1_0_1 (broadcastInDim S1x1 ![1] bcast_S1_S1x1_1 a₂))

/-- One row's score. -/
theorem blockScore_row (x : FVec Ideal S8192x1344 .f32) (A₁ : FVec Ideal S1344x50 .f32) (a₁ : FVec Ideal S50 .f32)
    (A₂ : FVec Ideal S50x1 .f32) (a₂ : FVec Ideal S1 .f32) (r : Fin 8192) :
    blockScore x A₁ a₁ A₂ a₂ (ix2 r 0) = mlp A₁ a₁ A₂ a₂ (fun d => x (ix2 r d)) := by
  pointwise [blockScore]
  rfl

/-- The host operations after the kernel, up to the last block's scores. -/
abbrev scoring : List (HloOp τ sig (Elt Ideal)) := List.flatten [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15] ++ hostOps1_16.take 4

/-- The host operations after that: joining the scores and choosing the best spans. -/
abbrev choosing : List (HloOp τ sig (Elt Ideal)) := hostOps1_16.drop 4

variable (U : Valuation τ sig (Elt Ideal))

/-- The feature rows are the kernel's array, two axes read as one. -/
theorem scoring_rows : StableHlo.after scoring U (Proc.devRef .tc main_v11)
    = shapeCast S65536x1344 (U (Proc.devRef .tc main_v10) : FVec Ideal S8192x8x1344 .f32) shapeCasts_S8192x8x1344_S65536x1344 := by
  simp only [scoring, hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, List.flatten_cons, List.flatten_nil, List.cons_append, List.nil_append, List.append_nil, List.take]
  after_results_simp
  rfl

/-- The scores of block 0's rows. -/
theorem scoring_block0 : StableHlo.after scoring U (Proc.devRef .tc main_v21)
    = blockScore (extractStridedSlice S8192x1344 ![0, 0] (shapeCast S65536x1344 (U (Proc.devRef .tc main_v10) : FVec Ideal S8192x8x1344 .f32)
          shapeCasts_S8192x8x1344_S65536x1344) slices_S65536x1344_S8192x1344_0_0)
        (U (Proc.devRef .tc main_arg9)) (U (Proc.devRef .tc main_arg10)) (U (Proc.devRef .tc main_arg11)) (U (Proc.devRef .tc main_arg12)) := by
  simp only [scoring, hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, List.flatten_cons, List.flatten_nil, List.cons_append, List.nil_append, List.append_nil, List.take]
  after_results_simp
  rfl

/-- The scores of block 1's rows. -/
theorem scoring_block1 : StableHlo.after scoring U (Proc.devRef .tc main_v31)
    = blockScore (extractStridedSlice S8192x1344 ![8192, 0] (shapeCast S65536x1344 (U (Proc.devRef .tc main_v10) : FVec Ideal S8192x8x1344 .f32)
          shapeCasts_S8192x8x1344_S65536x1344) slices_S65536x1344_S8192x1344_8192_0)
        (U (Proc.devRef .tc main_arg9)) (U (Proc.devRef .tc main_arg10)) (U (Proc.devRef .tc main_arg11)) (U (Proc.devRef .tc main_arg12)) := by
  simp only [scoring, hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, List.flatten_cons, List.flatten_nil, List.cons_append, List.nil_append, List.append_nil, List.take]
  after_results_simp
  rfl

/-- The scores of block 2's rows. -/
theorem scoring_block2 : StableHlo.after scoring U (Proc.devRef .tc main_v41)
    = blockScore (extractStridedSlice S8192x1344 ![16384, 0] (shapeCast S65536x1344 (U (Proc.devRef .tc main_v10) : FVec Ideal S8192x8x1344 .f32)
          shapeCasts_S8192x8x1344_S65536x1344) slices_S65536x1344_S8192x1344_16384_0)
        (U (Proc.devRef .tc main_arg9)) (U (Proc.devRef .tc main_arg10)) (U (Proc.devRef .tc main_arg11)) (U (Proc.devRef .tc main_arg12)) := by
  simp only [scoring, hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, List.flatten_cons, List.flatten_nil, List.cons_append, List.nil_append, List.append_nil, List.take]
  after_results_simp
  rfl

/-- The scores of block 3's rows. -/
theorem scoring_block3 : StableHlo.after scoring U (Proc.devRef .tc main_v51)
    = blockScore (extractStridedSlice S8192x1344 ![24576, 0] (shapeCast S65536x1344 (U (Proc.devRef .tc main_v10) : FVec Ideal S8192x8x1344 .f32)
          shapeCasts_S8192x8x1344_S65536x1344) slices_S65536x1344_S8192x1344_24576_0)
        (U (Proc.devRef .tc main_arg9)) (U (Proc.devRef .tc main_arg10)) (U (Proc.devRef .tc main_arg11)) (U (Proc.devRef .tc main_arg12)) := by
  simp only [scoring, hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, List.flatten_cons, List.flatten_nil, List.cons_append, List.nil_append, List.append_nil, List.take]
  after_results_simp
  rfl

/-- The scores of block 4's rows. -/
theorem scoring_block4 : StableHlo.after scoring U (Proc.devRef .tc main_v61)
    = blockScore (extractStridedSlice S8192x1344 ![32768, 0] (shapeCast S65536x1344 (U (Proc.devRef .tc main_v10) : FVec Ideal S8192x8x1344 .f32)
          shapeCasts_S8192x8x1344_S65536x1344) slices_S65536x1344_S8192x1344_32768_0)
        (U (Proc.devRef .tc main_arg9)) (U (Proc.devRef .tc main_arg10)) (U (Proc.devRef .tc main_arg11)) (U (Proc.devRef .tc main_arg12)) := by
  simp only [scoring, hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, List.flatten_cons, List.flatten_nil, List.cons_append, List.nil_append, List.append_nil, List.take]
  after_results_simp
  rfl

/-- The scores of block 5's rows. -/
theorem scoring_block5 : StableHlo.after scoring U (Proc.devRef .tc main_v71)
    = blockScore (extractStridedSlice S8192x1344 ![40960, 0] (shapeCast S65536x1344 (U (Proc.devRef .tc main_v10) : FVec Ideal S8192x8x1344 .f32)
          shapeCasts_S8192x8x1344_S65536x1344) slices_S65536x1344_S8192x1344_40960_0)
        (U (Proc.devRef .tc main_arg9)) (U (Proc.devRef .tc main_arg10)) (U (Proc.devRef .tc main_arg11)) (U (Proc.devRef .tc main_arg12)) := by
  simp only [scoring, hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, List.flatten_cons, List.flatten_nil, List.cons_append, List.nil_append, List.append_nil, List.take]
  after_results_simp
  rfl

/-- The scores of block 6's rows. -/
theorem scoring_block6 : StableHlo.after scoring U (Proc.devRef .tc main_v81)
    = blockScore (extractStridedSlice S8192x1344 ![49152, 0] (shapeCast S65536x1344 (U (Proc.devRef .tc main_v10) : FVec Ideal S8192x8x1344 .f32)
          shapeCasts_S8192x8x1344_S65536x1344) slices_S65536x1344_S8192x1344_49152_0)
        (U (Proc.devRef .tc main_arg9)) (U (Proc.devRef .tc main_arg10)) (U (Proc.devRef .tc main_arg11)) (U (Proc.devRef .tc main_arg12)) := by
  simp only [scoring, hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, List.flatten_cons, List.flatten_nil, List.cons_append, List.nil_append, List.append_nil, List.take]
  after_results_simp
  rfl

/-- The scores of block 7's rows. -/
theorem scoring_block7 : StableHlo.after scoring U (Proc.devRef .tc main_v91)
    = blockScore (extractStridedSlice S8192x1344 ![57344, 0] (shapeCast S65536x1344 (U (Proc.devRef .tc main_v10) : FVec Ideal S8192x8x1344 .f32)
          shapeCasts_S8192x8x1344_S65536x1344) slices_S65536x1344_S8192x1344_57344_0)
        (U (Proc.devRef .tc main_arg9)) (U (Proc.devRef .tc main_arg10)) (U (Proc.devRef .tc main_arg11)) (U (Proc.devRef .tc main_arg12)) := by
  simp only [scoring, hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, List.flatten_cons, List.flatten_nil, List.cons_append, List.nil_append, List.append_nil, List.take]
  after_results_simp
  rfl

/-- The scores are the blocks' scores, one after another. -/
theorem choosing_scores : StableHlo.after choosing U (Proc.devRef .tc main_v92)
    = concatenate S65536x1 0 [⟨S8192x1, (U (Proc.devRef .tc main_v21) : FVec Ideal S8192x1 .f32)⟩, ⟨S8192x1, (U (Proc.devRef .tc main_v31) : FVec Ideal S8192x1 .f32)⟩, ⟨S8192x1, (U (Proc.devRef .tc main_v41) : FVec Ideal S8192x1 .f32)⟩, ⟨S8192x1, (U (Proc.devRef .tc main_v51) : FVec Ideal S8192x1 .f32)⟩, ⟨S8192x1, (U (Proc.devRef .tc main_v61) : FVec Ideal S8192x1 .f32)⟩, ⟨S8192x1, (U (Proc.devRef .tc main_v71) : FVec Ideal S8192x1 .f32)⟩, ⟨S8192x1, (U (Proc.devRef .tc main_v81) : FVec Ideal S8192x1 .f32)⟩, ⟨S8192x1, (U (Proc.devRef .tc main_v91) : FVec Ideal S8192x1 .f32)⟩]
      concatenates_S8192x1_S8192x1_S8192x1_S8192x1_S8192x1_S8192x1_S8192x1_S8192x1_S65536x1_d0 := by
  simp only [choosing, hostOps1_16, List.drop]
  after_results_simp
  rfl

/-- The best spans are the largest scores' places. -/
theorem choosing_best : StableHlo.after choosing U (Proc.devRef .tc main_indices)
    = (Host.topK S3276 0 (FloatOps.cmpfTotal (F := Ideal) (φ := .f32) .gt) (shapeCast S65536 (StableHlo.after choosing U (Proc.devRef .tc main_v92) : FVec Ideal S65536x1 .f32)
        shapeCasts_S65536x1_S65536) sliceFits_S65536_S3276).2 := by
  simp only [choosing, hostOps1_16, List.drop]
  after_results_simp
  rfl

/-- Choosing leaves the feature rows alone. -/
theorem choosing_rows : StableHlo.after choosing U (Proc.devRef .tc main_v11) = U (Proc.devRef .tc main_v11) := by
  simp only [choosing, hostOps1_16, List.drop]
  after_results_simp

end Cert.Mention

end
-- ==== Proof.Result.lean ====
/- The kernel program's three results. -/
module

public import proofs.«01_k».proof.Proof.Array
public import proofs.«01_k».proof.Proof.Tail

@[expose] public section

set_option maxRecDepth 16384

noncomputable section

namespace Cert.Mention

open Idealize.ShloMosaic Idealize.ShloMosaic.TcCoe Idealize.SL.Sem
open Cert.KernelIdeal Cert.KernelIdeal.Gen

/-- An array over start tokens and width indices, read as an array over spans. -/
theorem by_span (x : FVec Ideal S8192x8x1344 .f32) (s : Fin 65536) (d : Fin 1344) :
    shapeCast S65536x1344 x shapeCasts_S8192x8x1344_S65536x1344 (ix2 s d) = x (ix3 ⟨s.val / 8, by omega⟩ ⟨s.val % 8, by omega⟩ d) := by
  pointwise

/-- A block of 8192 rows of an array, at one entry. -/
theorem rows_of_block (x : FVec Ideal S65536x1344 .f32) (n : ℕ) (hn : S65536x1344.Slices ![n, 0] S8192x1344) (r : Fin 8192) (q : Fin 65536) (h : n + r.val = q.val) (d : Fin 1344) :
    extractStridedSlice S8192x1344 ![n, 0] x hn (ix2 r d) = x (ix2 q d) := by
  pointwise
  exact congrArg (fun p => x (ix2 p d)) (Fin.ext h)

/-- Eight blocks of 8192 scores, one after another. -/
theorem joined (B : Fin 8 → FVec Ideal S8192x1 .f32) (f : Fin 65536 → EReal)
    (h : ∀ (k : Fin 8) (r : Fin 8192), B k (ix2 r 0) = f ⟨8192 * k.val + r.val, by omega⟩) (s : Fin 65536) :
    concatenate S65536x1 0 [⟨S8192x1, B 0⟩, ⟨S8192x1, B 1⟩, ⟨S8192x1, B 2⟩, ⟨S8192x1, B 3⟩, ⟨S8192x1, B 4⟩, ⟨S8192x1, B 5⟩, ⟨S8192x1, B 6⟩, ⟨S8192x1, B 7⟩]
      concatenates_S8192x1_S8192x1_S8192x1_S8192x1_S8192x1_S8192x1_S8192x1_S8192x1_S65536x1_d0 (ix2 s 0) = f s := by
  pointwise
  have put : ∀ (k : Fin 8) (q : Fin 8192), 8192 * k.val + q.val = s.val → B k (ix2 q 0) = f s :=
    fun k q hq => (h k q).trans (congrArg f (Fin.ext hq))
  split
  · exact put 0 _ (by show 8192 * 0 + (s.val) = s.val; omega)
  split
  · exact put 1 _ (by show 8192 * 1 + (s.val - 8192) = s.val; omega)
  split
  · exact put 2 _ (by show 8192 * 2 + (s.val - 8192 - 8192) = s.val; omega)
  split
  · exact put 3 _ (by show 8192 * 3 + (s.val - 8192 - 8192 - 8192) = s.val; omega)
  split
  · exact put 4 _ (by show 8192 * 4 + (s.val - 8192 - 8192 - 8192 - 8192) = s.val; omega)
  split
  · exact put 5 _ (by show 8192 * 5 + (s.val - 8192 - 8192 - 8192 - 8192 - 8192) = s.val; omega)
  split
  · exact put 6 _ (by show 8192 * 6 + (s.val - 8192 - 8192 - 8192 - 8192 - 8192 - 8192) = s.val; omega)
  exact put 7 _ (by show 8192 * 7 + (s.val - 8192 - 8192 - 8192 - 8192 - 8192 - 8192 - 8192) = s.val; omega)

/-- The scores of all rows, computed in eight blocks of 8192 rows. -/
theorem joined_scores (x : FVec Ideal S65536x1344 .f32) (A₁ : FVec Ideal S1344x50 .f32) (a₁ : FVec Ideal S50 .f32)
    (A₂ : FVec Ideal S50x1 .f32) (a₂ : FVec Ideal S1 .f32) (s : Fin 65536) :
    concatenate S65536x1 0 [⟨S8192x1, blockScore (extractStridedSlice S8192x1344 ![0, 0] x slices_S65536x1344_S8192x1344_0_0) A₁ a₁ A₂ a₂⟩,
      ⟨S8192x1, blockScore (extractStridedSlice S8192x1344 ![8192, 0] x slices_S65536x1344_S8192x1344_8192_0) A₁ a₁ A₂ a₂⟩,
      ⟨S8192x1, blockScore (extractStridedSlice S8192x1344 ![16384, 0] x slices_S65536x1344_S8192x1344_16384_0) A₁ a₁ A₂ a₂⟩,
      ⟨S8192x1, blockScore (extractStridedSlice S8192x1344 ![24576, 0] x slices_S65536x1344_S8192x1344_24576_0) A₁ a₁ A₂ a₂⟩,
      ⟨S8192x1, blockScore (extractStridedSlice S8192x1344 ![32768, 0] x slices_S65536x1344_S8192x1344_32768_0) A₁ a₁ A₂ a₂⟩,
      ⟨S8192x1, blockScore (extractStridedSlice S8192x1344 ![40960, 0] x slices_S65536x1344_S8192x1344_40960_0) A₁ a₁ A₂ a₂⟩,
      ⟨S8192x1, blockScore (extractStridedSlice S8192x1344 ![49152, 0] x slices_S65536x1344_S8192x1344_49152_0) A₁ a₁ A₂ a₂⟩,
      ⟨S8192x1, blockScore (extractStridedSlice S8192x1344 ![57344, 0] x slices_S65536x1344_S8192x1344_57344_0) A₁ a₁ A₂ a₂⟩]
      concatenates_S8192x1_S8192x1_S8192x1_S8192x1_S8192x1_S8192x1_S8192x1_S8192x1_S65536x1_d0 (ix2 s 0) = mlp A₁ a₁ A₂ a₂ (fun d => x (ix2 s d)) := by
  have one : ∀ (n : ℕ) (hn : S65536x1344.Slices ![n, 0] S8192x1344) (r : Fin 8192) (q : Fin 65536), n + r.val = q.val →
      blockScore (extractStridedSlice S8192x1344 ![n, 0] x hn) A₁ a₁ A₂ a₂ (ix2 r 0) = mlp A₁ a₁ A₂ a₂ (fun d => x (ix2 q d)) := by
    intro n hn r q hq
    rw [blockScore_row]
    refine congrArg (mlp _ _ _ _) (funext fun d => ?_)
    exact (rows_of_block x n hn r q hq d)
  refine joined ![_, _, _, _, _, _, _, _] (fun q => mlp A₁ a₁ A₂ a₂ (fun d => x (ix2 q d))) (fun k r => ?_) s
  match k with
  | 0 => exact one 0 slices_S65536x1344_S8192x1344_0_0 r _ rfl
  | 1 => exact one 8192 slices_S65536x1344_S8192x1344_8192_0 r _ rfl
  | 2 => exact one 16384 slices_S65536x1344_S8192x1344_16384_0 r _ rfl
  | 3 => exact one 24576 slices_S65536x1344_S8192x1344_24576_0 r _ rfl
  | 4 => exact one 32768 slices_S65536x1344_S8192x1344_32768_0 r _ rfl
  | 5 => exact one 40960 slices_S65536x1344_S8192x1344_40960_0 r _ rfl
  | 6 => exact one 49152 slices_S65536x1344_S8192x1344_49152_0 r _ rfl
  | 7 => exact one 57344 slices_S65536x1344_S8192x1344_57344_0 r _ rfl

variable (m : (ℓ : Loc nD τ sig) → Buf (Elt Ideal) ℓ)

/-- The contents the host operations after the kernel start from. -/
abbrev left (c : Dev nD) : Valuation τ sig (Elt Ideal) :=
  Pipeline.withArrays (cfgs 0).spec c (V0 m c) fun w => (Gen.dats m 0 c).arrAt w (cfgs 0).N

/-- There the kernel's output array holds the features. -/
theorem left_array (c : Dev nD) : left m c (Proc.devRef .tc main_v10)
    = features (m ((c : Thread nD τ).loc main_arg0)) (m ((c : Thread nD τ).loc main_arg1)) (m ((c : Thread nD τ).loc main_arg4))
      (m ((c : Thread nD τ).loc main_arg5)) (m ((c : Thread nD τ).loc main_arg6)) (m ((c : Thread nD τ).loc main_arg7))
      (m ((c : Thread nD τ).loc main_arg8)) :=
  ((Gen.dats m 0 c).withArrays_arrAt sharedIn0 (V0 m c) (A_eq m c) 9).trans (array m c)

/-- There argument 9 is as given. -/
theorem left_arg9 (c : Dev nD) : left m c (Proc.devRef .tc main_arg9) = m ((c : Thread nD τ).loc main_arg9) :=
  (Pipeline.withArrays_of_ne _ c _ _ main_arg9 (by decide)).trans (V_main_arg9 m c)

/-- There argument 10 is as given. -/
theorem left_arg10 (c : Dev nD) : left m c (Proc.devRef .tc main_arg10) = m ((c : Thread nD τ).loc main_arg10) :=
  (Pipeline.withArrays_of_ne _ c _ _ main_arg10 (by decide)).trans (V_main_arg10 m c)

/-- There argument 11 is as given. -/
theorem left_arg11 (c : Dev nD) : left m c (Proc.devRef .tc main_arg11) = m ((c : Thread nD τ).loc main_arg11) :=
  (Pipeline.withArrays_of_ne _ c _ _ main_arg11 (by decide)).trans (V_main_arg11 m c)

/-- There argument 12 is as given. -/
theorem left_arg12 (c : Dev nD) : left m c (Proc.devRef .tc main_arg12) = m ((c : Thread nD τ).loc main_arg12) :=
  (Pipeline.withArrays_of_ne _ c _ _ main_arg12 (by decide)).trans (V_main_arg12 m c)

/-- What the buffers hold at the end. -/
theorem finish (c : Dev nD) (b : Ref sig .tc) : Pipeline.afterTail₀ cfgs (Gen.dats m) 0 (V0 m) [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16] c b
    = StableHlo.after choosing (StableHlo.after scoring (left m c)) (Proc.devRef .tc b) := by
  rw [← StableHlo.after_append]
  rfl

/-- The feature rows at the end. -/
theorem finish_rows (c : Dev nD) (s : Fin 65536) (d : Fin 1344) :
    (Pipeline.afterTail₀ cfgs (Gen.dats m) 0 (V0 m) [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16] c main_v11 : FVec Ideal S65536x1344 .f32) (ix2 s d)
    = feature (m ((c : Thread nD τ).loc main_arg0)) (m ((c : Thread nD τ).loc main_arg1)) (m ((c : Thread nD τ).loc main_arg4))
      (m ((c : Thread nD τ).loc main_arg5)) (m ((c : Thread nD τ).loc main_arg6)) (m ((c : Thread nD τ).loc main_arg7))
      (m ((c : Thread nD τ).loc main_arg8)) (s.val / 8) ⟨s.val % 8, by omega⟩ d := by
  rw [finish, choosing_rows, scoring_rows, left_array, by_span]
  rfl

/-- The scores at the end. -/
theorem finish_scores (c : Dev nD) (s : Fin 65536) :
    (Pipeline.afterTail₀ cfgs (Gen.dats m) 0 (V0 m) [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16] c main_v92 : FVec Ideal S65536x1 .f32) (ix2 s 0)
    = mlp (m ((c : Thread nD τ).loc main_arg9)) (m ((c : Thread nD τ).loc main_arg10)) (m ((c : Thread nD τ).loc main_arg11))
        (m ((c : Thread nD τ).loc main_arg12)) (fun d => feature (m ((c : Thread nD τ).loc main_arg0)) (m ((c : Thread nD τ).loc main_arg1)) (m ((c : Thread nD τ).loc main_arg4))
      (m ((c : Thread nD τ).loc main_arg5)) (m ((c : Thread nD τ).loc main_arg6)) (m ((c : Thread nD τ).loc main_arg7))
      (m ((c : Thread nD τ).loc main_arg8)) (s.val / 8) ⟨s.val % 8, by omega⟩ d) := by
  have hX := by_span (features (m ((c : Thread nD τ).loc main_arg0)) (m ((c : Thread nD τ).loc main_arg1)) (m ((c : Thread nD τ).loc main_arg4))
      (m ((c : Thread nD τ).loc main_arg5)) (m ((c : Thread nD τ).loc main_arg6)) (m ((c : Thread nD τ).loc main_arg7))
      (m ((c : Thread nD τ).loc main_arg8)))
  rw [finish, choosing_scores, scoring_block0, scoring_block1, scoring_block2, scoring_block3, scoring_block4, scoring_block5, scoring_block6,
    scoring_block7, left_array, left_arg9, left_arg10, left_arg11, left_arg12]
  exact (joined_scores _ _ _ _ _ s).trans (congrArg (mlp _ _ _ _) (funext fun d => hX s d))

/-- The best spans at the end, from the scores at the end. -/
theorem finish_best (c : Dev nD) : Pipeline.afterTail₀ cfgs (Gen.dats m) 0 (V0 m) [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16] c main_indices
    = (Host.topK S3276 0 (FloatOps.cmpfTotal (F := Ideal) (φ := .f32) .gt)
        (shapeCast S65536 (Pipeline.afterTail₀ cfgs (Gen.dats m) 0 (V0 m) [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16] c main_v92 : FVec Ideal S65536x1 .f32)
          shapeCasts_S65536x1_S65536) sliceFits_S65536_S3276).2 := by
  rw [finish, finish, choosing_best]

end Cert.Mention

end
-- ==== Proof.Equal.lean ====
/- The kernel program's results are the reference's. -/
module

public import proofs.«01_k».proof.Proof.Ref
public import proofs.«01_k».proof.Proof.Pre
public import proofs.«01_k».proof.Proof.Result

@[expose] public section

set_option maxRecDepth 16384

noncomputable section

namespace Cert.Mention

open Idealize.ShloMosaic Idealize.ShloMosaic.TcCoe Idealize.SL.Sem
open Cert.KernelIdeal Cert.KernelIdeal.Gen
open Cert.ReferenceIdeal.Read (val_main_indices val_main_v52 val_main_v61 val_main_v62)

/-- An index into an array with two axes. -/
theorem index_two {A B : ℕ} (x : (⟨2, ![A, B]⟩ : Shape).Idx) : x = ix2 (x 0) (x 1) :=
  funext fun a => match a with
    | ⟨0, _⟩ => rfl
    | ⟨1, _⟩ => rfl

/-- An index into an array whose second axis has one entry. -/
theorem index_column {A : ℕ} (x : (⟨2, ![A, 1]⟩ : Shape).Idx) : x = ix2 (x 0) 0 :=
  funext fun a => match a with
    | ⟨0, _⟩ => rfl
    | ⟨1, _⟩ => Fin.ext (by have h : (x 1).val < 1 := (x 1).isLt; show (x 1).val = 0; omega)

variable (m : (ℓ : Loc nD τ sig) → Buf (Elt Ideal) ℓ) (c : Dev nD)

/-- The feature rows are the reference's. -/
theorem same_rows (h : Spans (m ((c : Thread nD τ).loc main_arg2))) : (Pipeline.afterTail₀ cfgs (Gen.dats m) 0 (V0 m) [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16] c main_v11 : FVec Ideal S65536x1344 .f32)
    = val_main_v52 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) := by
  funext j
  rw [index_two j]
  exact (finish_rows m c (j 0) (j 1)).trans (ref_feature (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) h (j 0) (j 1)).symm

/-- The scores are the reference's. -/
theorem same_scores (h : Spans (m ((c : Thread nD τ).loc main_arg2))) : (Pipeline.afterTail₀ cfgs (Gen.dats m) 0 (V0 m) [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16] c main_v92 : FVec Ideal S65536x1 .f32)
    = val_main_v61 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  funext j
  rw [index_column j]
  refine (finish_scores m c (j 0)).trans (Eq.trans ?_ (ref_score (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (j 0)).symm)
  exact congrArg (mlp (m ((c : Thread nD τ).loc main_arg9)) (m ((c : Thread nD τ).loc main_arg10)) (m ((c : Thread nD τ).loc main_arg11)) (m ((c : Thread nD τ).loc main_arg12))) (funext fun d =>
    (ref_feature (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) h (j 0) d).symm)

/-- The best spans are the reference's. -/
theorem same_best (h : Spans (m ((c : Thread nD τ).loc main_arg2))) : Pipeline.afterTail₀ cfgs (Gen.dats m) 0 (V0 m) [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16] c main_indices
    = val_main_indices (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  rw [finish_best, same_scores m c h]
  rfl

end Cert.Mention

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_spans
public import proofs.«01_k».proof.Proof.Equal
public import Idealize.ShloMosaic.Adequacy
public import Idealize.ShloMosaic.Init

@[expose] public section

noncomputable section

namespace Cert.Proof

open Idealize.ShloMosaic Idealize.SL.Sem Cert.Kernel

/-- The reference stops with its arguments unchanged. -/
theorem reference_stops : Cert.quiescent_ReferenceIdeal := fun m g _ =>
  (θ_run Cert.ReferenceIdeal.defs _ _).mono (fun r h => ⟨fun c => (h c).2.2.2, sem_eq_zero_of_no_sems (by decide) r.2⟩)
    (Cert.ReferenceIdeal.Value.run (F := Ideal) m g)

set_option maxHeartbeats 4000000 in
/-- Where the table lists the spans in order, kernel and reference give equal results. -/
theorem equal : Cert.algebraic_KernelIdeal_ReferenceIdeal_pre_spans := by
  intro m g m' g' hp ha
  have spans := fun c => Cert.Mention.spans_of_pre _ _ _ _ _ _ _ _ _ _ _ _ _ (congrFun (hp c))
  refine ⟨fun c => Cert.ReferenceIdeal.Read.val_main_indices (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)),
    fun c => Cert.ReferenceIdeal.Read.val_main_v61 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)),
    fun c => Cert.ReferenceIdeal.Read.val_main_v52 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · refine (θ_run Cert.KernelIdeal.defs _ _).mono (fun r h c => ?_)
      (θ_run_and (Cert.KernelIdeal.Gen.run_main (F := Ideal) m g) (Cert.KernelIdeal.Gen.unchanged (F := Ideal) m g))
    exact ⟨((h.1 c).2 Cert.KernelIdeal.main_indices (by decide)).trans (Cert.Mention.same_best m c (spans c)),
      ((h.1 c).2 Cert.KernelIdeal.main_v92 (by decide)).trans (Cert.Mention.same_scores m c (spans c)),
      ((h.1 c).2 Cert.KernelIdeal.main_v11 (by decide)).trans (Cert.Mention.same_rows m c (spans c)), h.2 c⟩
  · refine (θ_run Cert.ReferenceIdeal.defs _ _).mono (fun r h c => ?_) (Cert.ReferenceIdeal.Value.run (F := Ideal) m' g')
    obtain ⟨a0, a1, a2, -, a4, a5, a6, a7, a8, a9, a10, a11, a12⟩ := ha c
    refine ⟨(h c).1.trans ?_, (h c).2.1.trans ?_, (h c).2.2.1.trans ?_, (h c).2.2.2⟩
    · beta_reduce
      rw [← a0, ← a1, ← a2, ← a4, ← a5, ← a6, ← a7, ← a8, ← a9, ← a10, ← a11, ← a12]
      exact Cert.ReferenceIdeal.Read.val_main_indices_eq (StableHlo.launchContents m' c)
    · beta_reduce
      rw [← a0, ← a1, ← a2, ← a4, ← a5, ← a6, ← a7, ← a8, ← a9, ← a10, ← a11, ← a12]
      exact Cert.ReferenceIdeal.Read.val_main_v61_eq (StableHlo.launchContents m' c)
    · beta_reduce
      rw [← a0, ← a1, ← a2, ← a4, ← a5, ← a6, ← a7, ← a8]
      exact Cert.ReferenceIdeal.Read.val_main_v52_eq (StableHlo.launchContents m' c)

/-- Everything claimed: each program stops with its arguments unchanged, and kernel and reference give equal results. -/
theorem claim : Cert.Claim :=
  ⟨Cert.Kernel.Gen.facts, Cert.KernelIdeal.Gen.facts, Cert.ReferenceIdeal.Gen.facts, Cert.Pre_spans.Gen.facts,
    fun m g _ => Cert.Kernel.Gen.frame m g, fun m g _ => Cert.KernelIdeal.Gen.frame m g, fun m g _ => Cert.KernelIdeal.Gen.frame m g,
    reference_stops, fun m g _ => reference_stops m g trivial, trivial, equal⟩

end Cert.Proof

end
